-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_regular [hPre_finite_and_regular : Cert.Pre_finite_and_regular.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_regular [hPre_finite_and_regular : Cert.Pre_finite_and_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_and_regular [hKernelIdeal : Cert.KernelIdeal.Facts] [hPre_finite_and_regular : Cert.Pre_finite_and_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_and_regular [hReferenceIdeal : Cert.ReferenceIdeal.Facts] [hPre_finite_and_regular : Cert.Pre_finite_and_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite_and_regular [hKernelIdeal : Cert.KernelIdeal.Facts] [hReferenceIdeal : Cert.ReferenceIdeal.Facts] [hPre_finite_and_regular : Cert.Pre_finite_and_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_and_regular : Cert.Pre_finite_and_regular.Facts),
    quiescent_Kernel (hKernel := hKernel)
    ∧ quiescent_KernelIdeal (hKernelIdeal := hKernelIdeal)
    ∧ quiescent_KernelIdeal_pre_finite_and_regular (hKernelIdeal := hKernelIdeal) (hPre_finite_and_regular := hPre_finite_and_regular)
    ∧ quiescent_ReferenceIdeal (hReferenceIdeal := hReferenceIdeal)
    ∧ quiescent_ReferenceIdeal_pre_finite_and_regular (hReferenceIdeal := hReferenceIdeal) (hPre_finite_and_regular := hPre_finite_and_regular)
    ∧ preserves_Kernel_KernelIdeal
    ∧ algebraic_KernelIdeal_ReferenceIdeal_pre_finite_and_regular (hKernelIdeal := hKernelIdeal) (hReferenceIdeal := hReferenceIdeal) (hPre_finite_and_regular := hPre_finite_and_regular)
-- ==== Pre_finite_and_regular.lean ====
abbrev S64x207x12 : Shape := ⟨3, ![64, 207, 12]⟩
abbrev S64x10x1 : Shape := ⟨3, ![64, 10, 1]⟩
abbrev S10 : Shape := ⟨1, ![10]⟩
abbrev S64x207x12x9 : Shape := ⟨4, ![64, 207, 12, 9]⟩
abbrev S10x207x207 : Shape := ⟨3, ![10, 207, 207]⟩
abbrev S10x12x12 : Shape := ⟨3, ![10, 12, 12]⟩
abbrev S10x207 : Shape := ⟨2, ![10, 207]⟩
abbrev S10x12 : Shape := ⟨2, ![10, 12]⟩
abbrev S10x207x1 : Shape := ⟨3, ![10, 207, 1]⟩
abbrev S10x1x12 : Shape := ⟨3, ![10, 1, 12]⟩
abbrev S10x207x12 : Shape := ⟨3, ![10, 207, 12]⟩
abbrev S10x1x1 : Shape := ⟨3, ![10, 1, 1]⟩
abbrev S_ : Shape := ⟨0, ![]⟩
abbrev S207x207 : Shape := ⟨2, ![207, 207]⟩
abbrev S12x12 : Shape := ⟨2, ![12, 12]⟩

class Facts : Prop where
  bcast_S10x207_S10x207x1_0_1 : S10x207.BroadcastsInDim S10x207x1 (![0, 1] : Fin 2 → Fin S10x207x1.rank)
  bcast_S10x12_S10x1x12_0_2 : S10x12.BroadcastsInDim S10x1x12 (![0, 2] : Fin 2 → Fin S10x1x12.rank)
  bcast_S10x207x1_S10x207x12_0_1_2 : S10x207x1.BroadcastsInDim S10x207x12 (![0, 1, 2] : Fin 3 → Fin S10x207x12.rank)
  bcast_S10x1x12_S10x207x12_0_1_2 : S10x1x12.BroadcastsInDim S10x207x12 (![0, 1, 2] : Fin 3 → Fin S10x207x12.rank)
  bcast_S10_S10x1x1_0 : S10.BroadcastsInDim S10x1x1 (![0] : Fin 1 → Fin S10x1x1.rank)
  bcast_S10x1x1_S10x207x12_0_1_2 : S10x1x1.BroadcastsInDim S10x207x12 (![0, 1, 2] : Fin 3 → Fin S10x207x12.rank)
  bcast_S_S64x207x12 : S_.BroadcastsInDim S64x207x12 (![] : Fin 0 → Fin S64x207x12.rank)
  reducesTo_S64x207x12_S_d0_1_2 : S64x207x12.ReducesTo [0, 1, 2] S_
  h_S_ : 0 < S_.numel
  bcast_S_S64x10x1 : S_.BroadcastsInDim S64x10x1 (![] : Fin 0 → Fin S64x10x1.rank)
  reducesTo_S64x10x1_S_d0_1_2 : S64x10x1.ReducesTo [0, 1, 2] S_
  bcast_S207x207_S10x207x207_1_2 : S207x207.BroadcastsInDim S10x207x207 (![1, 2] : Fin 2 → Fin S10x207x207.rank)
  bcast_S_S10x207x207 : S_.BroadcastsInDim S10x207x207 (![] : Fin 0 → Fin S10x207x207.rank)
  reducesTo_S10x207x207_S10x207_d1 : S10x207x207.ReducesTo [1] S10x207
  bcast_S_S10x207 : S_.BroadcastsInDim S10x207 (![] : Fin 0 → Fin S10x207.rank)
  reducesTo_S10x207_S_d0_1 : S10x207.ReducesTo [0, 1] S_
  bcast_S12x12_S10x12x12_1_2 : S12x12.BroadcastsInDim S10x12x12 (![1, 2] : Fin 2 → Fin S10x12x12.rank)
  bcast_S_S10x12x12 : S_.BroadcastsInDim S10x12x12 (![] : Fin 0 → Fin S10x12x12.rank)
  reducesTo_S10x12x12_S10x12_d1 : S10x12x12.ReducesTo [1] S10x12
  bcast_S_S10x12 : S_.BroadcastsInDim S10x12 (![] : Fin 0 → Fin S10x12.rank)
  reducesTo_S10x12_S_d0_1 : S10x12.ReducesTo [0, 1] S_
  reducesTo_S10x207x207_S_d0_1_2 : S10x207x207.ReducesTo [0, 1, 2] S_
  reducesTo_S10x12x12_S_d0_1_2 : S10x12x12.ReducesTo [0, 1, 2] S_
  bcast_S_S10x207x12 : S_.BroadcastsInDim S10x207x12 (![] : Fin 0 → Fin S10x207x12.rank)
  reducesTo_S10x207x12_S_d0_1_2 : S10x207x12.ReducesTo [0, 1, 2] S_

variable [Facts]

def fn_part3 {F : FTy → Type} [FloatOps F] (main_v8 : FVec F S10x207x12 .f32) (main_v53 : IVec S_ 1) : IVec S_ 1 :=
  let main_cst_16 : FVec F S_ .f32 := constant S_ .f32 0x00000000#32
  let main_v54 : FVec F S10x207x12 .f32 := broadcastInDim S10x207x12 ![] bcast_S_S10x207x12 main_cst_16
  let main_v55 : IVec S10x207x12 1 := cmpf .une main_v8 main_v54
  let main_c_17 : IVec S_ 1 := constantI S_ 1 1#1
  let main_v56 : IVec S_ 1 := (fun x v => Host.reduce IntOp.andi x v reducesTo_S10x207x12_S_d0_1_2 h_S_) main_v55 main_c_17
  let main_v57 : IVec S_ 1 := andi main_v53 main_v56
  main_v57

def fn_part2 {F : FTy → Type} [FloatOps F] (main_arg7 : FVec F S10x12x12 .f32) (main_arg9 : FVec F S10x207x207 .f32) (main_arg11 : FVec F S10x12x12 .f32) (main_v8 : FVec F S10x207x12 .f32) (main_v32 : IVec S_ 1) (main_v36 : IVec S10x12x12 1) (main_cst_8 : FVec F S_ .f32) : IVec S_ 1 :=
  let main_v37 : FVec F S10x12x12 .f32 := broadcastInDim S10x12x12 ![] bcast_S_S10x12x12 main_cst_8
  let main_v38 : FVec F S10x12x12 .f32 := select main_v36 main_arg7 main_v37
  let main_cst_9 : FVec F S_ .f32 := constant S_ .f32 0x00000000#32
  let main_v39 : FVec F S10x12 .f32 := (fun x v => Host.reduceAdd x v reducesTo_S10x12x12_S10x12_d1 h_S_) main_v38 main_cst_9
  let main_cst_10 : FVec F S_ .f32 := constant S_ .f32 0x7F800000#32
  let main_v40 : FVec F S10x12 .f32 := broadcastInDim S10x12 ![] bcast_S_S10x12 main_cst_10
  let main_v41 : IVec S10x12 1 := cmpf .olt main_v39 main_v40
  let main_c_11 : IVec S_ 1 := constantI S_ 1 1#1
  let main_v42 : IVec S_ 1 := (fun x v => Host.reduce IntOp.andi x v reducesTo_S10x12_S_d0_1 h_S_) main_v41 main_c_11
  let main_v43 : IVec S_ 1 := andi main_v32 main_v42
  let main_v44 : FVec F S10x207x207 .f32 := Host.absf main_arg9
  let main_cst_12 : FVec F S_ .f32 := constant S_ .f32 0x7F800000#32
  let main_v45 : FVec F S10x207x207 .f32 := broadcastInDim S10x207x207 ![] bcast_S_S10x207x207 main_cst_12
  let main_v46 : IVec S10x207x207 1 := cmpf .olt main_v44 main_v45
  let main_c_13 : IVec S_ 1 := constantI S_ 1 1#1
  let main_v47 : IVec S_ 1 := (fun x v => Host.reduce IntOp.andi x v reducesTo_S10x207x207_S_d0_1_2 h_S_) main_v46 main_c_13
  let main_v48 : IVec S_ 1 := andi main_v43 main_v47
  let main_v49 : FVec F S10x12x12 .f32 := Host.absf main_arg11
  let main_cst_14 : FVec F S_ .f32 := constant S_ .f32 0x7F800000#32
  let main_v50 : FVec F S10x12x12 .f32 := broadcastInDim S10x12x12 ![] bcast_S_S10x12x12 main_cst_14
  let main_v51 : IVec S10x12x12 1 := cmpf .olt main_v49 main_v50
  let main_c_15 : IVec S_ 1 := constantI S_ 1 1#1
  let main_v52 : IVec S_ 1 := (fun x v => Host.reduce IntOp.andi x v reducesTo_S10x12x12_S_d0_1_2 h_S_) main_v51 main_c_15
  let main_v53 : IVec S_ 1 := andi main_v48 main_v52
  fn_part3 (F := F) main_v8 main_v53

def fn_part1 {F : FTy → Type} [FloatOps F] (main_arg3 : FVec F S64x10x1 .f32) (main_arg6 : FVec F S10x207x207 .f32) (main_arg7 : FVec F S10x12x12 .f32) (main_arg9 : FVec F S10x207x207 .f32) (main_arg11 : FVec F S10x12x12 .f32) (main_v8 : FVec F S10x207x12 .f32) (main_v17 : IVec S_ 1) (main_v18 : FVec F S64x10x1 .f32) : IVec S_ 1 :=
  let main_v19 : IVec S64x10x1 1 := cmpf .olt main_arg3 main_v18
  let main_c_3 : IVec S_ 1 := constantI S_ 1 1#1
  let main_v20 : IVec S_ 1 := (fun x v => Host.reduce IntOp.andi x v reducesTo_S64x10x1_S_d0_1_2 h_S_) main_v19 main_c_3
  let main_v21 : IVec S_ 1 := andi main_v17 main_v20
  let main_v22 : IVec S207x207 32 := iotaInDim S207x207 32 0
  let main_v23 : IVec S207x207 32 := iotaInDim S207x207 32 1
  let main_v24 : IVec S207x207 1 := cmpi .eq main_v22 main_v23
  let main_v25 : IVec S10x207x207 1 := broadcastInDim S10x207x207 ![1, 2] bcast_S207x207_S10x207x207_1_2 main_v24
  let main_cst_4 : FVec F S_ .f32 := constant S_ .f32 0x00000000#32
  let main_v26 : FVec F S10x207x207 .f32 := broadcastInDim S10x207x207 ![] bcast_S_S10x207x207 main_cst_4
  let main_v27 : FVec F S10x207x207 .f32 := select main_v25 main_arg6 main_v26
  let main_cst_5 : FVec F S_ .f32 := constant S_ .f32 0x00000000#32
  let main_v28 : FVec F S10x207 .f32 := (fun x v => Host.reduceAdd x v reducesTo_S10x207x207_S10x207_d1 h_S_) main_v27 main_cst_5
  let main_cst_6 : FVec F S_ .f32 := constant S_ .f32 0x7F800000#32
  let main_v29 : FVec F S10x207 .f32 := broadcastInDim S10x207 ![] bcast_S_S10x207 main_cst_6
  let main_v30 : IVec S10x207 1 := cmpf .olt main_v28 main_v29
  let main_c_7 : IVec S_ 1 := constantI S_ 1 1#1
  let main_v31 : IVec S_ 1 := (fun x v => Host.reduce IntOp.andi x v reducesTo_S10x207_S_d0_1 h_S_) main_v30 main_c_7
  let main_v32 : IVec S_ 1 := andi main_v21 main_v31
  let main_v33 : IVec S12x12 32 := iotaInDim S12x12 32 0
  let main_v34 : IVec S12x12 32 := iotaInDim S12x12 32 1
  let main_v35 : IVec S12x12 1 := cmpi .eq main_v33 main_v34
  let main_v36 : IVec S10x12x12 1 := broadcastInDim S10x12x12 ![1, 2] bcast_S12x12_S10x12x12_1_2 main_v35
  let main_cst_8 : FVec F S_ .f32 := constant S_ .f32 0x00000000#32
  fn_part2 (F := F) main_arg7 main_arg9 main_arg11 main_v8 main_v32 main_v36 main_cst_8

def fn {F : FTy → Type} [FloatOps F] (main_arg0 : FVec F S64x207x12 .f32) (main_arg1 : FVec F S64x207x12 .f32) (main_arg2 : FVec F S64x207x12 .f32) (main_arg3 : FVec F S64x10x1 .f32) (main_arg4 : FVec F S10 .f32) (main_arg5 : FVec F S64x207x12x9 .f32) (main_arg6 : FVec F S10x207x207 .f32) (main_arg7 : FVec F S10x12x12 .f32) (main_arg8 : FVec F S10x207 .f32) (main_arg9 : FVec F S10x207x207 .f32) (main_arg10 : FVec F S10x12 .f32) (main_arg11 : FVec F S10x12x12 .f32) : IVec S_ 1 :=
  let main_v0 : FVec F S10x207x1 .f32 := broadcastInDim S10x207x1 ![0, 1] bcast_S10x207_S10x207x1_0_1 main_arg8
  let main_v1 : FVec F S10x1x12 .f32 := broadcastInDim S10x1x12 ![0, 2] bcast_S10x12_S10x1x12_0_2 main_arg10
  let main_v2 : FVec F S10x207x12 .f32 := broadcastInDim S10x207x12 ![0, 1, 2] bcast_S10x207x1_S10x207x12_0_1_2 main_v0
  let main_v3 : FVec F S10x207x12 .f32 := broadcastInDim S10x207x12 ![0, 1, 2] bcast_S10x1x12_S10x207x12_0_1_2 main_v1
  let main_v4 : FVec F S10x207x12 .f32 := mulf main_v2 main_v3
  let main_v5 : FVec F S10 .f32 := mulf main_arg4 main_arg4
  let main_v6 : FVec F S10x1x1 .f32 := broadcastInDim S10x1x1 ![0] bcast_S10_S10x1x1_0 main_v5
  let main_v7 : FVec F S10x207x12 .f32 := broadcastInDim S10x207x12 ![0, 1, 2] bcast_S10x1x1_S10x207x12_0_1_2 main_v6
  let main_v8 : FVec F S10x207x12 .f32 := addf main_v4 main_v7
  let main_v9 : FVec F S64x207x12 .f32 := Host.absf main_arg0
  let main_cst : FVec F S_ .f32 := constant S_ .f32 0x7F800000#32
  let main_v10 : FVec F S64x207x12 .f32 := broadcastInDim S64x207x12 ![] bcast_S_S64x207x12 main_cst
  let main_v11 : IVec S64x207x12 1 := cmpf .olt main_v9 main_v10
  let main_c : IVec S_ 1 := constantI S_ 1 1#1
  let main_v12 : IVec S_ 1 := (fun x v => Host.reduce IntOp.andi x v reducesTo_S64x207x12_S_d0_1_2 h_S_) main_v11 main_c
  let main_v13 : FVec F S64x207x12 .f32 := Host.absf main_arg1
  let main_cst_0 : FVec F S_ .f32 := constant S_ .f32 0x7F800000#32
  let main_v14 : FVec F S64x207x12 .f32 := broadcastInDim S64x207x12 ![] bcast_S_S64x207x12 main_cst_0
  let main_v15 : IVec S64x207x12 1 := cmpf .olt main_v13 main_v14
  let main_c_1 : IVec S_ 1 := constantI S_ 1 1#1
  let main_v16 : IVec S_ 1 := (fun x v => Host.reduce IntOp.andi x v reducesTo_S64x207x12_S_d0_1_2 h_S_) main_v15 main_c_1
  let main_v17 : IVec S_ 1 := andi main_v12 main_v16
  let main_cst_2 : FVec F S_ .f32 := constant S_ .f32 0x7F800000#32
  let main_v18 : FVec F S64x10x1 .f32 := broadcastInDim S64x10x1 ![] bcast_S_S64x10x1 main_cst_2
  fn_part1 (F := F) main_arg3 main_arg6 main_arg7 main_arg9 main_arg11 main_v8 main_v17 main_v18
-- ==== Kernel.lean ====
abbrev S64x207x12 : Shape := ⟨3, ![64, 207, 12]⟩
abbrev S64x10x1 : Shape := ⟨3, ![64, 10, 1]⟩
abbrev S10 : Shape := ⟨1, ![10]⟩
abbrev S64x207x12x9 : Shape := ⟨4, ![64, 207, 12, 9]⟩
abbrev S10x207x207 : Shape := ⟨3, ![10, 207, 207]⟩
abbrev S10x12x12 : Shape := ⟨3, ![10, 12, 12]⟩
abbrev S10x207 : Shape := ⟨2, ![10, 207]⟩
abbrev S10x12 : Shape := ⟨2, ![10, 12]⟩
abbrev S_ : Shape := ⟨0, ![]⟩
abbrev S10x12x16 : Shape := ⟨3, ![10, 12, 16]⟩
abbrev S12x10x16 : Shape := ⟨3, ![12, 10, 16]⟩
abbrev S12x160 : Shape := ⟨2, ![12, 160]⟩
abbrev S10x16 : Shape := ⟨2, ![10, 16]⟩
abbrev S64x10 : Shape := ⟨2, ![64, 10]⟩
abbrev S10x64 : Shape := ⟨2, ![10, 64]⟩
abbrev S10x2x32 : Shape := ⟨3, ![10, 2, 32]⟩
abbrev S2x10x32 : Shape := ⟨3, ![2, 10, 32]⟩
abbrev S1x10 : Shape := ⟨2, ![1, 10]⟩
abbrev S2x1x128 : Shape := ⟨3, ![2, 1, 128]⟩
abbrev S32x207x12 : Shape := ⟨3, ![32, 207, 12]⟩
abbrev S1x10x32 : Shape := ⟨3, ![1, 10, 32]⟩
abbrev S1x1x128 : Shape := ⟨3, ![1, 1, 128]⟩
abbrev S6624x12 : Shape := ⟨2, ![6624, 12]⟩
abbrev S6624x160 : Shape := ⟨2, ![6624, 160]⟩
abbrev S32x207x160 : Shape := ⟨3, ![32, 207, 160]⟩
abbrev S32x160x207 : Shape := ⟨3, ![32, 160, 207]⟩
abbrev S16x207 : Shape := ⟨2, ![16, 207]⟩
abbrev S32x16x207 : Shape := ⟨3, ![32, 16, 207]⟩
abbrev S512x207 : Shape := ⟨2, ![512, 207]⟩
abbrev S1x207x207 : Shape := ⟨3, ![1, 207, 207]⟩
abbrev S207x207 : Shape := ⟨2, ![207, 207]⟩
abbrev S1x207 : Shape := ⟨2, ![1, 207]⟩
abbrev S1x16 : Shape := ⟨2, ![1, 16]⟩
abbrev S16x1 : Shape := ⟨2, ![16, 1]⟩
abbrev S1x1 : Shape := ⟨2, ![1, 1]⟩
abbrev S1x16x207 : Shape := ⟨3, ![1, 16, 207]⟩
abbrev S32x16 : Shape := ⟨2, ![32, 16]⟩
abbrev S32 : Shape := ⟨1, ![32]⟩
abbrev S32x1 : Shape := ⟨2, ![32, 1]⟩
abbrev S1x32 : Shape := ⟨2, ![1, 32]⟩
abbrev S10x32 : Shape := ⟨2, ![10, 32]⟩
abbrev S10x1 : Shape := ⟨2, ![10, 1]⟩
abbrev S1x1x32 : Shape := ⟨3, ![1, 1, 32]⟩
abbrev S1 : Shape := ⟨1, ![1]⟩
abbrev S1x1x1 : Shape := ⟨3, ![1, 1, 1]⟩
abbrev S1x32x207x12 : Shape := ⟨4, ![1, 32, 207, 12]⟩
abbrev S1x1x1x1 : Shape := ⟨4, ![1, 1, 1, 1]⟩

abbrev nBuf : Space → Nat
  | .hbm => 54
  | .vmem => 17
  | .smem => 0
  | _ => 0

abbrev bufTy : (tb : Table) → Fin (tcTables nBuf tb) → BufTy
  | .hbm, ⟨0, _⟩ => ⟨S64x207x12, .f32⟩
  | .hbm, ⟨1, _⟩ => ⟨S64x207x12, .f32⟩
  | .hbm, ⟨2, _⟩ => ⟨S64x207x12, .f32⟩
  | .hbm, ⟨3, _⟩ => ⟨S64x10x1, .f32⟩
  | .hbm, ⟨4, _⟩ => ⟨S10, .f32⟩
  | .hbm, ⟨5, _⟩ => ⟨S64x207x12x9, .f32⟩
  | .hbm, ⟨6, _⟩ => ⟨S10x207x207, .f32⟩
  | .hbm, ⟨7, _⟩ => ⟨S10x12x12, .f32⟩
  | .hbm, ⟨8, _⟩ => ⟨S10x207, .f32⟩
  | .hbm, ⟨9, _⟩ => ⟨S10x207x207, .f32⟩
  | .hbm, ⟨10, _⟩ => ⟨S10x12, .f32⟩
  | .hbm, ⟨11, _⟩ => ⟨S10x12x12, .f32⟩
  | .hbm, ⟨12, _⟩ => ⟨S_, .i32⟩
  | .hbm, ⟨13, _⟩ => ⟨S_, .f32⟩
  | .hbm, ⟨14, _⟩ => ⟨S10x12x16, .f32⟩
  | .hbm, ⟨15, _⟩ => ⟨S12x10x16, .f32⟩
  | .hbm, ⟨16, _⟩ => ⟨S12x160, .f32⟩
  | .hbm, ⟨17, _⟩ => ⟨S_, .i32⟩
  | .hbm, ⟨18, _⟩ => ⟨S_, .f32⟩
  | .hbm, ⟨19, _⟩ => ⟨S10x16, .f32⟩
  | .hbm, ⟨20, _⟩ => ⟨S64x10, .f32⟩
  | .hbm, ⟨21, _⟩ => ⟨S10x64, .f32⟩
  | .hbm, ⟨22, _⟩ => ⟨S10x2x32, .f32⟩
  | .hbm, ⟨23, _⟩ => ⟨S2x10x32, .f32⟩
  | .hbm, ⟨24, _⟩ => ⟨S1x10, .f32⟩
  | .hbm, ⟨25, _⟩ => ⟨S2x1x128, .f32⟩
  | .hbm, ⟨26, _⟩ => ⟨S1x1x1, .f32⟩
  | .hbm, ⟨27, _⟩ => ⟨S_, .f32⟩
  | .hbm, ⟨28, _⟩ => ⟨S1x1x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x1x1, .f32⟩
  | .hbm, ⟨34, _⟩ => ⟨S_, .f32⟩
  | .hbm, ⟨35, _⟩ => ⟨S1x1x1, .f32⟩
  | .hbm, ⟨36, _⟩ => ⟨S_, .f32⟩
  | .hbm, ⟨37, _⟩ => ⟨S_, .f32⟩
  | .hbm, ⟨38, _⟩ => ⟨S1x1x1, .f32⟩
  | .hbm, ⟨39, _⟩ => ⟨S_, .f32⟩
  | .hbm, ⟨40, _⟩ => ⟨S1x1x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .i1⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S32x207x12, .f32⟩
  | .local _ .vmem, ⟨1, _⟩ => ⟨S32x207x12, .f32⟩
  | .local _ .vmem, ⟨2, _⟩ => ⟨S32x207x12, .f32⟩
  | .local _ .vmem, ⟨3, _⟩ => ⟨S32x207x12, .f32⟩
  | .local _ .vmem, ⟨4, _⟩ => ⟨S32x207x12, .f32⟩
  | .local _ .vmem, ⟨5, _⟩ => ⟨S32x207x12, .f32⟩
  | .local _ .vmem, ⟨6, _⟩ => ⟨S1x10x32, .f32⟩
  | .local _ .vmem, ⟨7, _⟩ => ⟨S1x10x32, .f32⟩
  | .local _ .vmem, ⟨8, _⟩ => ⟨S1x10, .f32⟩
  | .local _ .vmem, ⟨9, _⟩ => ⟨S12x160, .f32⟩
  | .local _ .vmem, ⟨10, _⟩ => ⟨S10x207x207, .f32⟩
  | .local _ .vmem, ⟨11, _⟩ => ⟨S10x207, .f32⟩
  | .local _ .vmem, ⟨12, _⟩ => ⟨S10x16, .f32⟩
  | .local _ .vmem, ⟨13, _⟩ => ⟨S10x207x207, .f32⟩
  | .local _ .vmem, ⟨14, _⟩ => ⟨S10x12x12, .f32⟩
  | .local _ .vmem, ⟨15, _⟩ => ⟨S1x1x128, .f32⟩
  | .local _ .vmem, ⟨16, _⟩ => ⟨S1x1x128, .f32⟩
  | _, _ => ⟨S64x207x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_call2_v0 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x207x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x207x12 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x207x12 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x160 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x207x207 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x207 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S10x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10x207x207 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x12x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S64x207x12 : Shape := ⟨3, ![64, 207, 12]⟩
abbrev S64x10x1 : Shape := ⟨3, ![64, 10, 1]⟩
abbrev S10 : Shape := ⟨1, ![10]⟩
abbrev S64x207x12x9 : Shape := ⟨4, ![64, 207, 12, 9]⟩
abbrev S10x207x207 : Shape := ⟨3, ![10, 207, 207]⟩
abbrev S10x12x12 : Shape := ⟨3, ![10, 12, 12]⟩
abbrev S10x207 : Shape := ⟨2, ![10, 207]⟩
abbrev S10x12 : Shape := ⟨2, ![10, 12]⟩
abbrev S64x10 : Shape := ⟨2, ![64, 10]⟩
abbrev S64x2484 : Shape := ⟨2, ![64, 2484]⟩
abbrev S10x207x1x207x1 : Shape := ⟨5, ![10, 207, 1, 207, 1]⟩
abbrev S10x1x12x1x12 : Shape := ⟨5, ![10, 1, 12, 1, 12]⟩
abbrev S10x207x12x207x12 : Shape := ⟨5, ![10, 207, 12, 207, 12]⟩
abbrev S10x2484x2484 : Shape := ⟨3, ![10, 2484, 2484]⟩
abbrev S10x207x1 : Shape := ⟨3, ![10, 207, 1]⟩
abbrev S10x1x12 : Shape := ⟨3, ![10, 1, 12]⟩
abbrev S10x207x12 : Shape := ⟨3, ![10, 207, 12]⟩
abbrev S10x2484 : Shape := ⟨2, ![10, 2484]⟩
abbrev S10x1 : Shape := ⟨2, ![10, 1]⟩
abbrev S10x1x2484 : Shape := ⟨3, ![10, 1, 2484]⟩
abbrev S207x207 : Shape := ⟨2, ![207, 207]⟩
abbrev S_ : Shape := ⟨0, ![]⟩
abbrev S12x12 : Shape := ⟨2, ![12, 12]⟩
abbrev S10x2484x64 : Shape := ⟨3, ![10, 2484, 64]⟩
abbrev S1x10 : Shape := ⟨2, ![1, 10]⟩
abbrev S64 : Shape := ⟨1, ![64]⟩

abbrev nBuf : Space → Nat
  | .hbm => 126
  | .vmem => 0
  | .smem => 0
  | _ => 0

abbrev bufTy : (tb : Table) → Fin (tcTables nBuf tb) → BufTy
  | .hbm, ⟨0, _⟩ => ⟨S64x207x12, .f32⟩
  | .hbm, ⟨1, _⟩ => ⟨S64x207x12, .f32⟩
  | .hbm, ⟨2, _⟩ => ⟨S64x207x12, .f32⟩
  | .hbm, ⟨3, _⟩ => ⟨S64x10x1, .f32⟩
  | .hbm, ⟨4, _⟩ => ⟨S10, .f32⟩
  | .hbm, ⟨5, _⟩ => ⟨S64x207x12x9, .f32⟩
  | .hbm, ⟨6, _⟩ => ⟨S10x207x207, .f32⟩
  | .hbm, ⟨7, _⟩ => ⟨S10x12x12, .f32⟩
  | .hbm, ⟨8, _⟩ => ⟨S10x207, .f32⟩
  | .hbm, ⟨9, _⟩ => ⟨S10x207x207, .f32⟩
  | .hbm, ⟨10, _⟩ => ⟨S10x12, .f32⟩
  | .hbm, ⟨11, _⟩ => ⟨S10x12x12, .f32⟩
  | .hbm, ⟨12, _⟩ => ⟨S64x10x1, .f32⟩
  | .hbm, ⟨13, _⟩ => ⟨S64x10, .f32⟩
  | .hbm, ⟨14, _⟩ => ⟨S64x207x12, .f32⟩
  | .hbm, ⟨15, _⟩ => ⟨S64x2484, .f32⟩
  | .hbm, ⟨16, _⟩ => ⟨S10x207x1x207x1, .f32⟩
  | .hbm, ⟨17, _⟩ => ⟨S10x1x12x1x12, .f32⟩
  | .hbm, ⟨18, _⟩ => ⟨S10x207x12x207x12, .f32⟩
  | .hbm, ⟨19, _⟩ => ⟨S10x207x12x207x12, .f32⟩
  | .hbm, ⟨20, _⟩ => ⟨S10x207x12x207x12, .f32⟩
  | .hbm, ⟨21, _⟩ => ⟨S10x2484x2484, .f32⟩
  | .hbm, ⟨22, _⟩ => ⟨S10x207x1, .f32⟩
  | .hbm, ⟨23, _⟩ => ⟨S10x1x12, .f32⟩
  | .hbm, ⟨24, _⟩ => ⟨S10x207x12, .f32⟩
  | .hbm, ⟨25, _⟩ => ⟨S10x207x12, .f32⟩
  | .hbm, ⟨26, _⟩ => ⟨S10x207x12, .f32⟩
  | .hbm, ⟨27, _⟩ => ⟨S10x2484, .f32⟩
  | .hbm, ⟨28, _⟩ => ⟨S10, .f32⟩
  | .hbm, ⟨29, _⟩ => ⟨S10x1, .f32⟩
  | .hbm, ⟨30, _⟩ => ⟨S10x2484, .f32⟩
  | .hbm, ⟨31, _⟩ => ⟨S10x2484, .f32⟩
  | .hbm, ⟨32, _⟩ => ⟨S10x1x2484, .f32⟩
  | .hbm, ⟨33, _⟩ => ⟨S10x2484x2484, .f32⟩
  | .hbm, ⟨34, _⟩ => ⟨S10x2484x2484, .f32⟩
  | .hbm, ⟨35, _⟩ => ⟨S10x2484x2484, .f32⟩
  | .hbm, ⟨36, _⟩ => ⟨S10x2484x2484, .f32⟩
  | .hbm, ⟨37, _⟩ => ⟨S207x207, .i32⟩
  | .hbm, ⟨38, _⟩ => ⟨S207x207, .i32⟩
  | .hbm, ⟨39, _⟩ => ⟨S207x207, .i1⟩
  | .hbm, ⟨40, _⟩ => ⟨S_, .f32⟩
  | .hbm, ⟨41, _⟩ => ⟨S207x207, .f32⟩
  | .hbm, ⟨42, _⟩ => ⟨S10x207x207, .i1⟩
  | .hbm, ⟨43, _⟩ => ⟨S10x207x207, .f32⟩
  | .hbm, ⟨44, _⟩ => ⟨S10x207x207, .f32⟩
  | .hbm, ⟨45, _⟩ => ⟨S_, .f32⟩
  | .hbm, ⟨46, _⟩ => ⟨S10x207, .f32⟩
  | .hbm, ⟨47, _⟩ => ⟨S10x207, .f32⟩
  | .hbm, ⟨48, _⟩ => ⟨S_, .f32⟩
  | .hbm, ⟨49, _⟩ => ⟨S10, .f32⟩
  | .hbm, ⟨50, _⟩ => ⟨S12x12, .i32⟩
  | .hbm, ⟨51, _⟩ => ⟨S12x12, .i32⟩
  | .hbm, ⟨52, _⟩ => ⟨S12x12, .i1⟩
  | .hbm, ⟨53, _⟩ => ⟨S_, .f32⟩
  | .hbm, ⟨54, _⟩ => ⟨S12x12, .f32⟩
  | .hbm, ⟨55, _⟩ => ⟨S10x12x12, .i1⟩
  | .hbm, ⟨56, _⟩ => ⟨S10x12x12, .f32⟩
  | .hbm, ⟨57, _⟩ => ⟨S10x12x12, .f32⟩
  | .hbm, ⟨58, _⟩ => ⟨S_, .f32⟩
  | .hbm, ⟨59, _⟩ => ⟨S10x12, .f32⟩
  | .hbm, ⟨60, _⟩ => ⟨S10x12, .f32⟩
  | .hbm, ⟨61, _⟩ => ⟨S_, .f32⟩
  | .hbm, ⟨62, _⟩ => ⟨S10, .f32⟩
  | .hbm, ⟨63, _⟩ => ⟨S10x2484x64, .f32⟩
  | .hbm, ⟨64, _⟩ => ⟨S64x10, .f32⟩
  | .hbm, ⟨65, _⟩ => ⟨S_, .f32⟩
  | .hbm, ⟨66, _⟩ => ⟨S64x10, .f32⟩
  | .hbm, ⟨67, _⟩ => ⟨S64x10, .f32⟩
  | .hbm, ⟨68, _⟩ => ⟨S_, .f32⟩
  | .hbm, ⟨69, _⟩ => ⟨S64x10, .f32⟩
  | .hbm, ⟨70, _⟩ => ⟨S64x10, .f32⟩
  | .hbm, ⟨71, _⟩ => ⟨S1x10, .f32⟩
  | .hbm, ⟨72, _⟩ => ⟨S_, .f32⟩
  | .hbm, ⟨73, _⟩ => ⟨S1x10, .f32⟩
  | .hbm, ⟨74, _⟩ => ⟨S1x10, .f32⟩
  | .hbm, ⟨75, _⟩ => ⟨S64x10, .f32⟩
  | .hbm, ⟨76, _⟩ => ⟨S64x10, .f32⟩
  | .hbm, ⟨77, _⟩ => ⟨S1x10, .f32⟩
  | .hbm, ⟨78, _⟩ => ⟨S_, .f32⟩
  | .hbm, ⟨79, _⟩ => ⟨S1x10, .f32⟩
  | .hbm, ⟨80, _⟩ => ⟨S1x10, .f32⟩
  | .hbm, ⟨81, _⟩ => ⟨S64x10, .f32⟩
  | .hbm, ⟨82, _⟩ => ⟨S64x10, .f32⟩
  | .hbm, ⟨83, _⟩ => ⟨S64x10, .f32⟩
  | .hbm, ⟨84, _⟩ => ⟨S64x10, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S64, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S64x207x12, .f32⟩
  | .hbm, ⟨95, _⟩ => ⟨S64x207x12, .i1⟩
  | .hbm, ⟨96, _⟩ => ⟨S64x207x12, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .i1⟩
  | .hbm, ⟨103, _⟩ => ⟨S64x207x12, .f32⟩
  | .hbm, ⟨104, _⟩ => ⟨S64x207x12, .f32⟩
  | .hbm, ⟨105, _⟩ => ⟨S_, .f32⟩
  | .hbm, ⟨106, _⟩ => ⟨S_, .f32⟩
  | .hbm, ⟨107, _⟩ => ⟨S64x207x12, .f32⟩
  | .hbm, ⟨108, _⟩ => ⟨S64x207x12, .f32⟩
  | .hbm, ⟨109, _⟩ => ⟨S64x207x12, .f32⟩
  | .hbm, ⟨110, _⟩ => ⟨S64x207x12, .f32⟩
  | .hbm, ⟨111, _⟩ => ⟨S64x207x12, .f32⟩
  | .hbm, ⟨112, _⟩ => ⟨S64x207x12, .i1⟩
  | .hbm, ⟨113, _⟩ => ⟨S_, .f32⟩
  | .hbm, ⟨114, _⟩ => ⟨S_, .f32⟩
  | .hbm, ⟨115, _⟩ => ⟨S64x207x12, .f32⟩
  | .hbm, ⟨116, _⟩ => ⟨S64x207x12, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | _, _ => ⟨S64x207x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_v22 : Ref sig .tc := ⟨.hbm, 46, rfl⟩
abbrev main_v23 : Ref sig .tc := ⟨.hbm, 47, rfl⟩
abbrev main_cst_1 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_2 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_8 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_9 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_cst_14 : Ref sig .tc := ⟨.hbm, 99, rfl⟩
abbrev main_v62 : Ref sig .tc := ⟨.hbm, 100, rfl⟩
abbrev main_cst_15 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_cst_16 : Ref sig .tc := ⟨.hbm, 105, rfl⟩
abbrev main_call2_v0 : Ref sig .tc := ⟨.hbm, 106, rfl⟩
abbrev main_call2_v1 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_17 : Ref sig .tc := ⟨.hbm, 113, rfl⟩
abbrev main_call3_v0 : Ref sig .tc := ⟨.hbm, 114, rfl⟩
abbrev main_call3_v1 : Ref sig .tc := ⟨.hbm, 115, rfl⟩
abbrev main_v71 : Ref sig .tc := ⟨.hbm, 116, rfl⟩
abbrev main_cst_18 : Ref sig .tc := ⟨.hbm, 117, rfl⟩
abbrev main_v72 : Ref sig .tc := ⟨.hbm, 118, rfl⟩
abbrev main_cst_19 : Ref sig .tc := ⟨.hbm, 119, rfl⟩
abbrev main_v73 : Ref sig .tc := ⟨.hbm, 120, rfl⟩
abbrev main_cst_20 : Ref sig .tc := ⟨.hbm, 121, rfl⟩
abbrev main_v74 : Ref sig .tc := ⟨.hbm, 122, rfl⟩
abbrev main_cst_21 : Ref sig .tc := ⟨.hbm, 123, rfl⟩
abbrev main_v75 : Ref sig .tc := ⟨.hbm, 124, rfl⟩
abbrev main_v76 : Ref sig .tc := ⟨.hbm, 125, rfl⟩

abbrev nD : Nat := 1
abbrev τ : Topo := Topo.v7x

variable {F : FTy → Type} [FloatOps F]
-- ==== Proof.Quad.lean ====
/- The Mahalanobis form, over the reals: the quadratic form of the Kronecker matrix is the weighted sum of the squared
   coordinates that two small products give. -/
module

public import Idealize.ShloMosaic.PureOps.Ideal
public import Idealize.ShloMosaic.PureOps.Ideal.Laws

@[expose] public section

noncomputable section

namespace Cert.Quad

open Idealize.ShloMosaic

/-- The space part of a flat (space, time) position. -/
def pn (k : Fin 2484) : Fin 207 := ⟨k.val / 12, by omega⟩
/-- The time part of a flat (space, time) position. -/
def pt (k : Fin 2484) : Fin 12 := ⟨k.val % 12, by omega⟩

/-- A sum over flat positions is the double sum over space and time. -/
theorem sum_flat {M : Type*} [AddCommMonoid M] (f : Fin 207 → Fin 12 → M) :
    ∑ k : Fin 2484, f (pn k) (pt k) = ∑ n : Fin 207, ∑ t : Fin 12, f n t := by
  rw [← Fintype.sum_prod_type' f]
  refine Fintype.sum_equiv (finProdFinEquiv (m := 207) (n := 12)).symm _ _ (fun k => ?_)
  rfl

/-- A finite sum of reals, read among the extended reals, is the sum of the readings. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: `Σ_i r_i Σ_k (Σ_l (U_il κ_l) U_kl) r_k = Σ_l (Σ_i r_i U_il)² κ_l`. -/
theorem form_real {ι : Type*} [Fintype ι] (r κ : ι → ℝ) (U : ι → ι → ℝ) :
    ∑ i, r i * ∑ k, (∑ l, (U i l * κ l) * U k l) * r k = ∑ l, (∑ i, r i * U i l) * (∑ i, r i * U i l) * κ l := by
  have h1 : ∀ l, (∑ i, r i * U i l) * (∑ i, r i * U i l) * κ l = ∑ i, ∑ k, r i * ((U i l * κ l) * U k l * r k) := by
    intro l
    rw [Finset.sum_mul_sum, Finset.sum_mul]
    refine Finset.sum_congr rfl fun i _ => ?_
    rw [Finset.sum_mul]
    exact Finset.sum_congr rfl fun k _ => by ring
  rw [Finset.sum_congr rfl (fun l _ => h1 l), Finset.sum_comm]
  refine Finset.sum_congr rfl fun i _ => ?_
  rw [Finset.sum_comm, Finset.mul_sum]
  refine Finset.sum_congr rfl fun k _ => ?_
  rw [Finset.sum_mul, Finset.mul_sum]

/-- The flat coordinate of a Kronecker product is two small products in turn. -/
theorem coord_real (r : Fin 207 → Fin 12 → ℝ) (Us : Fin 207 → ℝ) (Ut : Fin 12 → ℝ) :
    ∑ k : Fin 2484, r (pn k) (pt k) * (Us (pn k) * Ut (pt k)) = ∑ n, (∑ t, r n t * Ut t) * Us n := by
  rw [sum_flat (fun n t => r n t * (Us n * Ut t))]
  refine Finset.sum_congr rfl fun n _ => ?_
  rw [Finset.sum_mul]
  exact Finset.sum_congr rfl fun t _ => by ring

/-- Reciprocals of extended reals are finite. -/
theorem inv_coe (x : EReal) : ((x⁻¹).toReal : EReal) = x⁻¹ := by
  induction x with
  | bot => simp
  | top => simp
  | coe x => rw [← EReal.coe_inv, EReal.toReal_coe]

/-- An extended real that is neither infinity is a real. -/
theorem lift {x : EReal} (h : max x (-x) ≠ ⊤) : ((x.toReal : ℝ) : EReal) = x := by
  induction x with
  | bot => simp at h
  | top => simp at h
  | coe x => simp

/-- Off zero, division is multiplication by the reciprocal. -/
theorem div_of_ne {x y : EReal} (h : y ≠ 0) : Ideal.div x y = x * y⁻¹ := by simp [Ideal.div, h]

/-- THE QUADRATIC FORM. The big Kronecker matrix's form is the kernel's sum over the coordinates. -/
theorem form_eq (r : Fin 207 → Fin 12 → EReal) (Us : Fin 207 → Fin 207 → EReal) (Ut : Fin 12 → Fin 12 → EReal)
    (cap : Fin 207 → Fin 12 → EReal)
    (hr : ∀ n t, ((r n t).toReal : EReal) = r n t) (hs : ∀ n n', ((Us n n').toReal : EReal) = Us n n')
    (ht : ∀ t t', ((Ut t t').toReal : EReal) = Ut t t') (hc : ∀ n t, cap n t ≠ 0) :
    ∑ i : Fin 2484, r (pn i) (pt i) * ∑ k : Fin 2484,
        (∑ l : Fin 2484, Ideal.div (Us (pn i) (pn l) * Ut (pt i) (pt l)) (cap (pn l) (pt l)) * (Us (pn k) (pn l) * Ut (pt k) (pt l)))
          * r (pn k) (pt k)
      = ∑ t' : Fin 12, ∑ n' : Fin 207,
          (∑ n, (∑ t, r n t * Ut t t') * Us n n') * (∑ n, (∑ t, r n t * Ut t t') * Us n n') * Ideal.div 1 (cap n' t') := by
  have hd : ∀ x n t, Ideal.div x (cap n t) = x * ((((cap n t)⁻¹).toReal : ℝ) : EReal) := fun x n t => by
    rw [div_of_ne (hc n t), inv_coe]
  simp only [hd, one_mul]
  generalize hκ : (fun n t => ((cap n t)⁻¹).toReal) = κ
  have hκ' : ∀ n t, ((cap n t)⁻¹).toReal = κ n t := fun n t => congrFun (congrFun hκ n) t
  simp only [hκ']
  obtain ⟨r, rfl⟩ : ∃ f : Fin 207 → Fin 12 → ℝ, r = fun n t => (f n t : EReal) := ⟨fun n t => (r n t).toReal, by funext n t; exact (hr n t).symm⟩
  obtain ⟨Us, rfl⟩ : ∃ f : Fin 207 → Fin 207 → ℝ, Us = fun n t => (f n t : EReal) := ⟨fun n t => (Us n t).toReal, by funext n t; exact (hs n t).symm⟩
  obtain ⟨Ut, rfl⟩ : ∃ f : Fin 12 → Fin 12 → ℝ, Ut = fun n t => (f n t : EReal) := ⟨fun n t => (Ut n t).toReal, by funext n t; exact (ht n t).symm⟩
  simp only [← EReal.coe_mul, ← coe_sum]
  congr 1
  rw [form_real (fun i => r (pn i) (pt i)) (fun l => κ (pn l) (pt l)) (fun i l => Us (pn i) (pn l) * Ut (pt i) (pt l))]
  have h := fun l : Fin 2484 => coord_real r (fun n => Us n (pn l)) (fun t => Ut t (pt l))
  rw [Finset.sum_congr rfl (fun l _ => by rw [h l])]
  rw [sum_flat (fun n' t' => (∑ n, (∑ t, r n t * Ut t t') * Us n n') * (∑ n, (∑ t, r n t * Ut t t') * Us n n') * κ n' t'),
    Finset.sum_comm]

/-- That common value is a real number. -/
theorem form_coe (r : Fin 207 → Fin 12 → EReal) (Us : Fin 207 → Fin 207 → EReal) (Ut : Fin 12 → Fin 12 → EReal)
    (cap : Fin 207 → Fin 12 → EReal)
    (hr : ∀ n t, ((r n t).toReal : EReal) = r n t) (hs : ∀ n n', ((Us n n').toReal : EReal) = Us n n')
    (ht : ∀ t t', ((Ut t t').toReal : EReal) = Ut t t') (hc : ∀ n t, cap n t ≠ 0) :
    ∃ q : ℝ, (∑ t' : Fin 12, ∑ n' : Fin 207,
          (∑ n, (∑ t, r n t * Ut t t') * Us n n') * (∑ n, (∑ t, r n t * Ut t t') * Us n n') * Ideal.div 1 (cap n' t')) = q := by
  have hd : ∀ x n t, Ideal.div x (cap n t) = x * ((((cap n t)⁻¹).toReal : ℝ) : EReal) := fun x n t => by
    rw [div_of_ne (hc n t), inv_coe]
  simp only [hd, one_mul]
  obtain ⟨r, rfl⟩ : ∃ f : Fin 207 → Fin 12 → ℝ, r = fun n t => (f n t : EReal) := ⟨fun n t => (r n t).toReal, by funext n t; exact (hr n t).symm⟩
  obtain ⟨Us, rfl⟩ : ∃ f : Fin 207 → Fin 207 → ℝ, Us = fun n t => (f n t : EReal) := ⟨fun n t => (Us n t).toReal, by funext n t; exact (hs n t).symm⟩
  obtain ⟨Ut, rfl⟩ : ∃ f : Fin 12 → Fin 12 → ℝ, Ut = fun n t => (f n t : EReal) := ⟨fun n t => (Ut n t).toReal, by funext n t; exact (ht n t).symm⟩
  simp only [← EReal.coe_mul, ← coe_sum]
  exact ⟨_, rfl⟩

end Cert.Quad

end
-- ==== Proof.Lse.lean ====
/- The two scalar parts of the loss at the ideal values: the logarithm of a sum of exponentials with and without the
   shift by the maximum, and the masked mean with and without the division by the mask's share. -/
module

public import proofs.«01_k».proof.Proof.Quad

@[expose] public section

noncomputable section

namespace Cert.Lse

open Idealize.ShloMosaic Cert.Quad

theorem exp_bot : Ideal.exp ⊥ = 0 := rfl
theorem exp_real (r : ℝ) : Ideal.exp (r : EReal) = ((Real.exp r : ℝ) : EReal) := rfl
theorem log_bot : Ideal.log ⊥ = ⊥ := rfl
theorem log_real (r : ℝ) : Ideal.log (r : EReal) = if r ≤ 0 then ⊥ else ((Real.log r : ℝ) : EReal) := rfl

/-- The exponential of anything but `⊤` is a real. -/
theorem exp_coe {x : EReal} (h : x ≠ ⊤) : ((Ideal.exp x).toReal : EReal) = Ideal.exp x := by
  induction x with
  | bot => simp [exp_bot]
  | top => exact absurd rfl h
  | coe x => rw [exp_real, EReal.toReal_coe]

/-- Shifting the argument by a real scales the exponential. -/
theorem exp_sub {x : EReal} (h : x ≠ ⊤) (m : ℝ) :
    Ideal.exp (x - (m : EReal)) = (((Ideal.exp x).toReal * Real.exp (-m) : ℝ) : EReal) := by
  induction x with
  | bot => simp [exp_bot]
  | top => exact absurd rfl h
  | coe x =>
    rw [← EReal.coe_sub, exp_real, exp_real, EReal.toReal_coe, sub_eq_add_neg, Real.exp_add]

/-- The logarithm of a scaled real. -/
theorem log_scale (s m : ℝ) : Ideal.log ((s * Real.exp (-m) : ℝ) : EReal) + (m : EReal) = Ideal.log (s : EReal) := by
  have he := Real.exp_pos (-m)
  rw [log_real, log_real]
  by_cases hs : s ≤ 0
  · have : s * Real.exp (-m) ≤ 0 := mul_nonpos_of_nonpos_of_nonneg hs he.le
    rw [if_pos this, if_pos hs, EReal.bot_add]
  · have hs' : 0 < s := not_le.mp hs
    have : ¬ s * Real.exp (-m) ≤ 0 := not_le.mpr (mul_pos hs' he)
    rw [if_neg this, if_neg hs, Real.log_mul hs'.ne' he.ne', Real.log_exp, ← EReal.coe_add]
    congr 1
    ring

/-- The logarithm of a real is not `⊤`. -/
theorem log_ne_top (s : ℝ) : Ideal.log (s : EReal) ≠ ⊤ := by
  rw [log_real]
  split_ifs
  · exact bot_ne_top
  · exact EReal.coe_ne_top _

/-- The logarithm of anything but `⊤` is not `⊤`. -/
theorem log_ne_top' {x : EReal} (h : x ≠ ⊤) : Ideal.log x ≠ ⊤ := by
  induction x with
  | bot => exact bot_ne_top
  | top => exact absurd rfl h
  | coe x => exact log_ne_top x

/-- THE SHIFT. Taking the maximum off inside and adding it back outside changes nothing. -/
theorem lse_eq {ι : Type} [Fintype ι] (ll : ι → EReal) (h : ∀ c, ll c ≠ ⊤) :
    Ideal.log (∑ c, Ideal.exp (ll c - Finset.univ.fold max ⊥ ll)) + Finset.univ.fold max ⊥ ll
      = Ideal.log (∑ c, Ideal.exp (ll c)) := by
  have hlt : Finset.univ.fold max ⊥ ll < ⊤ :=
    (Finset.fold_max_lt _).2 ⟨bot_lt_top, fun c _ => lt_top_iff_ne_top.2 (h c)⟩
  have hle : ∀ c, ll c ≤ Finset.univ.fold max ⊥ ll := fun c => (Finset.le_fold_max _).2 (Or.inr ⟨c, Finset.mem_univ c, le_rfl⟩)
  generalize Finset.univ.fold max ⊥ ll = m at hlt hle
  induction m with
  | top => exact absurd rfl hlt.ne
  | bot =>
    have hb : ∀ c, ll c = ⊥ := fun c => le_bot_iff.1 (hle c)
    simp only [hb, EReal.bot_sub, exp_bot, Finset.sum_const_zero, EReal.add_bot]
    rw [← EReal.coe_zero, log_real, if_pos le_rfl]
  | coe m =>
    have h1 : ∀ c, Ideal.exp (ll c - (m : EReal)) = (((Ideal.exp (ll c)).toReal * Real.exp (-m) : ℝ) : EReal) :=
      fun c => exp_sub (h c) m
    have h2 : ∀ c, Ideal.exp (ll c) = ((Ideal.exp (ll c)).toReal : EReal) := fun c => (exp_coe (h c)).symm
    rw [Finset.sum_congr rfl (fun c _ => h1 c), Finset.sum_congr rfl (fun c _ => h2 c), ← coe_sum, ← coe_sum,
      ← Finset.sum_mul, log_scale]

/-- The logarithm of the sum is not `⊤`. -/
theorem lse_ne_top {ι : Type} [Fintype ι] (ll : ι → EReal) (h : ∀ c, ll c ≠ ⊤) :
    Ideal.log (∑ c, Ideal.exp (ll c)) ≠ ⊤ := by
  have h2 : ∀ c, Ideal.exp (ll c) = ((Ideal.exp (ll c)).toReal : EReal) := fun c => (exp_coe (h c)).symm
  rw [Finset.sum_congr rfl (fun c _ => h2 c), ← coe_sum]
  exact log_ne_top _

/-- A finite sum of terms none of which is `⊤` is not `⊤`. -/
theorem sum_ne_top {ι : Type*} (s : Finset ι) (f : ι → EReal) (h : ∀ i, f i ≠ ⊤) : ∑ i ∈ s, f i ≠ ⊤ := by
  classical
  induction s using Finset.induction_on with
  | empty => simp
  | insert a s ha ih => rw [Finset.sum_insert ha]; exact EReal.add_ne_top (h a) ih

/-- Negation goes through a finite sum none of whose terms is `⊤`. -/
theorem sum_neg {ι : Type*} (s : Finset ι) (f : ι → EReal) (h : ∀ i, f i ≠ ⊤) : ∑ i ∈ s, -f i = -∑ i ∈ s, f i := by
  classical
  induction s using Finset.induction_on with
  | empty => simp
  | insert a s ha ih =>
    rw [Finset.sum_insert ha, Finset.sum_insert ha, ih, EReal.neg_add (Or.inr (sum_ne_top s f h)) (Or.inl (h a)), sub_eq_add_neg]

/-- THE MASKED MEAN. With a mask of zeros and ones, dividing the masked total by the mask's total, and taking the mean
    under the mask divided by its share, are the same; an empty mask gives zero in both. -/
theorem mse_eq {ι : Type} [Fintype ι] (d : ι → ℝ) (p : ι → Prop) [DecidablePred p] (N : ℝ) (hN : 0 < N) :
    (if 0 < ∑ i, (if p i then (1 : EReal) else 0)
      then Ideal.div (∑ i, (d i : EReal) * (if p i then (1 : EReal) else 0)) (∑ i, (if p i then (1 : EReal) else 0)) else 0)
    = Ideal.div (∑ i, (d i : EReal) *
        (if Ideal.div (∑ i, (if p i then (1 : EReal) else 0)) (N : EReal) = 0 then 0
          else Ideal.div (if p i then (1 : EReal) else 0) (Ideal.div (∑ i, (if p i then (1 : EReal) else 0)) (N : EReal)))) (N : EReal) := by
  have hp : ∀ i, (if p i then (1 : EReal) else 0) = ((if p i then (1 : ℝ) else 0 : ℝ) : EReal) := fun i => by split_ifs <;> simp
  simp only [hp]
  have hk : ∀ i, 0 ≤ (if p i then (1 : ℝ) else 0) := fun i => by split_ifs <;> norm_num
  generalize hkk : (fun i => if p i then (1 : ℝ) else 0) = k
  have hk' : ∀ i, (if p i then (1 : ℝ) else 0) = k i := fun i => congrFun hkk i
  simp only [hk'] at hk ⊢
  have hS : 0 ≤ ∑ i, k i := Finset.sum_nonneg fun i _ => hk i
  have hN' : (N : EReal) ≠ 0 := by exact_mod_cast hN.ne'
  have hdN : ∀ x : ℝ, Ideal.div (x : EReal) (N : EReal) = ((x * N⁻¹ : ℝ) : EReal) := fun x => by
    rw [div_of_ne hN', ← EReal.coe_inv, ← EReal.coe_mul]
  simp only [← EReal.coe_mul, ← coe_sum, hdN]
  by_cases h0 : ∑ i, k i = 0
  · have : ¬ (0 : EReal) < ((∑ i, k i : ℝ) : EReal) := by rw [h0]; simp
    rw [if_neg this]
    have h1 : (((∑ i, k i) * N⁻¹ : ℝ) : EReal) = 0 := by rw [h0]; simp
    simp only [h1, if_true, mul_zero, Finset.sum_const_zero]
    rw [div_of_ne hN', zero_mul]
  · have hpos : 0 < ∑ i, k i := lt_of_le_of_ne hS (Ne.symm h0)
    have : (0 : EReal) < ((∑ i, k i : ℝ) : EReal) := by exact_mod_cast hpos
    rw [if_pos this]
    have h1 : ¬ (((∑ i, k i) * N⁻¹ : ℝ) : EReal) = 0 := by
      have : (∑ i, k i) * N⁻¹ ≠ 0 := mul_ne_zero h0 (inv_ne_zero hN.ne')
      exact_mod_cast this
    simp only [h1, if_false, div_of_ne h1, div_of_ne this.ne']
    simp only [← EReal.coe_inv, ← EReal.coe_mul, ← coe_sum, hdN]
    congr 1
    rw [Finset.sum_mul, Finset.sum_mul]
    refine Finset.sum_congr rfl fun i _ => ?_
    field_simp

end Cert.Lse

end
-- ==== Proof.Block.lean ====
/- What one grid point computes, read at an index: the product with the temporal factors, one component's row of the
   Mahalanobis forms, and the ten rows together. -/
module

public import proofs.«01_k».proof.Proof.Lse
public import proofs.«01_k».proof.Proof.Gen.KernelIdeal.Frame
public import Idealize.ShloMosaic.Lib.Pipeline.Value
public import Idealize.ShloMosaic.Lib.ValueIdx

@[expose] public section

noncomputable section

namespace Cert.Block

open Cert.KernelIdeal Cert.KernelIdeal.Gen Idealize.ShloMosaic Idealize.ShloMosaic.ValueIdx Idealize.ShloMosaic.Pipeline

/-- The one pattern of f32 bits that reads as the real 1. -/
theorem ofBits_one : Ideal.ofBits .f32 0x3F800000#32 = 1 := by
  simp [Ideal.ofBits, Ideal.ieee, -EReal.coe_mul]; norm_num

/-- The kernel's first product: residual times the stacked temporal factors, at (batch, stacked column, space). -/
theorem proj_apply (x0 x1 : Vec Ideal S32x207x12 .f32) (x5 : Vec Ideal S12x160 .f32) (b : Fin 32) (j : Fin 160) (n : Fin 207) :
    k0_pay2 (F := Ideal) x0 x1 x5 (ix3 b j n) = ∑ t : Fin 12, (x1 (ix3 b n t) - x0 (ix3 b n t)) * x5 (ix2 t j) := by
  unfold k0_pay2
  dsimp only
  rw [transpose_apply _ _ _ (ix3 b j n) (ix3 b n j) (fun a => by fin_cases a <;> rfl)]
  rw [shapeCast_apply _ _ (ix3 b n j) (ix2 (⟨b.val * 207 + n.val, by omega⟩ : Fin 6624) j)
    (by rw [Shape.rowMajor_val_three, Shape.rowMajor_val_two]; rfl)]
  rw [shapeCast_self]
  refine (Ideal.matmul_constant_zero_apply _ _ _ _ _).trans ?_
  rw [← Equiv.sum_comp (contrEquiv1 dot_S6624x12_S12x160_S6624x160_1_0_0_1_n_n 12 (by rfl) (by rfl)).symm]
  refine Finset.sum_congr rfl fun t _ => ?_
  have hv : ((contrEquiv1 dot_S6624x12_S12x160_S6624x160_1_0_0_1_n_n 12 (by rfl) (by rfl)).symm t ⟨0, by decide⟩ : ℕ) = t.val :=
    contrEquiv1_symm_val _ _ _ _ t
  have hl : dot_S6624x12_S12x160_S6624x160_1_0_0_1_n_n.lhsIdx (ix2 (⟨b.val * 207 + n.val, by omega⟩ : Fin 6624) j)
      ((contrEquiv1 dot_S6624x12_S12x160_S6624x160_1_0_0_1_n_n 12 (by rfl) (by rfl)).symm t)
      = ix2 (⟨b.val * 207 + n.val, by omega⟩ : Fin 6624) t := by
    funext a; fin_cases a
    · rfl
    · exact Fin.ext hv
  have hr : dot_S6624x12_S12x160_S6624x160_1_0_0_1_n_n.rhsIdx (ix2 (⟨b.val * 207 + n.val, by omega⟩ : Fin 6624) j)
      ((contrEquiv1 dot_S6624x12_S12x160_S6624x160_1_0_0_1_n_n 12 (by rfl) (by rfl)).symm t)
      = ix2 t j := by
    funext a; fin_cases a
    · exact Fin.ext hv
    · rfl
  rw [hl, hr]
  rw [shapeCast_apply _ _ (ix2 (⟨b.val * 207 + n.val, by omega⟩ : Fin 6624) t) (ix3 b n t)
    (by rw [Shape.rowMajor_val_three, Shape.rowMajor_val_two]; rfl)]
  rfl

/-- One component's product with its spatial factor, from the temporal columns beginning at `off`. -/
def prodAt (D : FVec Ideal S32x160x207 .f32) (off : Fin 3 → Nat) (hs : S32x160x207.Slices off S32x16x207) (us : Vec Ideal S1x207x207 .f32) :
    FVec Ideal S512x207 .f32 :=
  have part : FVec Ideal S512x207 .f32 := shapeCast S512x207 (extractStridedSlice S32x16x207 off D hs) shapeCasts_S32x16x207_S512x207
  have factor : FVec Ideal S207x207 .f32 := shapeCast S207x207 us shapeCasts_S1x207x207_S207x207
  matmul dot_S512x207_S207x207_S512x207_1_0_0_1_n_n none part factor (constant S512x207 .f32 0x00000000#32)

/-- … read at (batch and temporal column, spatial column): the sum over space. -/
theorem prodAt_apply (D : FVec Ideal S32x160x207 .f32) (c : Nat) (hc : c < 10) (hs : S32x160x207.Slices ![0, 16 * c, 0] S32x16x207)
    (us : Vec Ideal S1x207x207 .f32) (b : Fin 32) (t : Fin 16) (n' : Fin 207) :
    prodAt D ![0, 16 * c, 0] hs us (ix2 (⟨b.val * 16 + t.val, by omega⟩ : Fin 512) n')
      = ∑ n : Fin 207, D (ix3 b (⟨16 * c + t.val, by omega⟩ : Fin 160) n) * us (ix3 (0 : Fin 1) n n') := by
  unfold prodAt
  refine (Ideal.matmul_constant_zero_apply _ _ _ _ _).trans ?_
  rw [← Equiv.sum_comp (contrEquiv1 dot_S512x207_S207x207_S512x207_1_0_0_1_n_n 207 (by rfl) (by rfl)).symm]
  refine Finset.sum_congr rfl fun n _ => ?_
  have hv : ((contrEquiv1 dot_S512x207_S207x207_S512x207_1_0_0_1_n_n 207 (by rfl) (by rfl)).symm n ⟨0, by decide⟩ : ℕ) = n.val :=
    contrEquiv1_symm_val _ _ _ _ n
  have hl : dot_S512x207_S207x207_S512x207_1_0_0_1_n_n.lhsIdx (ix2 (⟨b.val * 16 + t.val, by omega⟩ : Fin 512) n')
      ((contrEquiv1 dot_S512x207_S207x207_S512x207_1_0_0_1_n_n 207 (by rfl) (by rfl)).symm n)
      = ix2 (⟨b.val * 16 + t.val, by omega⟩ : Fin 512) n := by
    funext a; fin_cases a
    · rfl
    · exact Fin.ext hv
  have hr : dot_S512x207_S207x207_S512x207_1_0_0_1_n_n.rhsIdx (ix2 (⟨b.val * 16 + t.val, by omega⟩ : Fin 512) n')
      ((contrEquiv1 dot_S512x207_S207x207_S512x207_1_0_0_1_n_n 207 (by rfl) (by rfl)).symm n)
      = ix2 n n' := by
    funext a; fin_cases a
    · exact Fin.ext hv
    · rfl
  rw [hl, hr]
  rw [shapeCast_apply _ _ (ix2 (⟨b.val * 16 + t.val, by omega⟩ : Fin 512) n) (ix3 b t n)
    (by rw [Shape.rowMajor_val_three, Shape.rowMajor_val_two]; rfl)]
  rw [shapeCast_apply us _ (ix2 n n') (ix3 (0 : Fin 1) n n')
    (by rw [Shape.rowMajor_val_three, Shape.rowMajor_val_two]; show (0 * 207 + n.val) * 207 + n'.val = n.val * 207 + n'.val; omega)]
  rw [extractStridedSlice_apply _ _ _ (ix3 b t n) (ix3 b (⟨16 * c + t.val, by omega⟩ : Fin 160) n)
    (fun a => by fin_cases a <;> simp [ix3])]

/-- The reciprocal capacitances the kernel builds, at (temporal column, spatial column): zero on the padding. -/
theorem icap_apply (ds : Vec Ideal S1x207 .f32) (dt : Vec Ideal S1x16 .f32) (sg : Vec Ideal S1x1 .f32) (t : Fin 16) (n : Fin 207) :
    k0_pay4 (F := Ideal) ds dt sg sg (ix2 t n)
      = if t.val < 12 then Ideal.div 1 (dt (ix2 (0 : Fin 1) t) * ds (ix2 (0 : Fin 1) n) + sg (ix2 (0 : Fin 1) (0 : Fin 1)) * sg (ix2 (0 : Fin 1) (0 : Fin 1))) else 0 := by
  unfold k0_pay4
  dsimp only
  rw [select_apply]
  rw [show cmpi .slt (iota .tc S16x207 32 [0] iota_S16x207_d0_w32) (broadcast S16x207 12#32) (ix2 t n)
      = BitVec.ofBool (decide (t.val < 12)) from ?_]
  · rw [divf_apply, addf_apply, mulf_apply, broadcast_apply, broadcast_apply, broadcast_apply]
    rw [broadcastTo_apply _ _ (ix2 t n) (ix2 t (0 : Fin 1)) (fun a => by fin_cases a <;> rfl),
      broadcastTo_apply ds _ (ix2 t n) (ix2 (0 : Fin 1) n) (fun a => by fin_cases a <;> rfl),
      transpose_apply _ _ _ (ix2 t (0 : Fin 1)) (ix2 (0 : Fin 1) t) (fun a => by fin_cases a <;> rfl), shapeCast_self]
    show Scalar.select _ (Ideal.div (Ideal.ofBits .f32 0x3F800000#32) _) (Ideal.ofBits .f32 0x00000000#32) = _
    rw [ofBits_one, Ideal.ofBits_zero_f32]
    by_cases h : t.val < 12
    · have hx : extractAt ![0, 0] sg inpos_S1x1_p0_0 = sg (ix2 (0 : Fin 1) (0 : Fin 1)) :=
        congrArg sg (by funext a; fin_cases a <;> rfl)
      rw [if_pos h, decide_eq_true h, hx]; rfl
    · rw [if_neg h, decide_eq_false h]; rfl
  · show IntOp.cmpi .slt (iota .tc S16x207 32 [0] iota_S16x207_d0_w32 (ix2 t n)) 12#32 = _
    rw [iota_single_apply]
    show IntOp.cmpi .slt (BitVec.ofNat 32 t.val) 12#32 = _
    have : ∀ t : Fin 16, IntOp.cmpi .slt (BitVec.ofNat 32 t.val) 12#32 = BitVec.ofBool (decide (t.val < 12)) := by decide
    exact this t

/-- A component's row: for each batch the sum over the columns of the squared coordinate times the reciprocal
    capacitance. -/
theorem row_apply (p : FVec Ideal S512x207 .f32) (k : FVec Ideal S16x207 .f32) (b : Fin 32) :
    k0_pay5 (F := Ideal) p k (ix2 (0 : Fin 1) b)
      = ∑ t : Fin 16, ∑ n : Fin 207, p (ix2 (⟨b.val * 16 + t.val, by omega⟩ : Fin 512) n) * p (ix2 (⟨b.val * 16 + t.val, by omega⟩ : Fin 512) n)
          * k (ix2 t n) := by
  unfold k0_pay5
  dsimp only
  rw [transpose_apply _ _ _ (ix2 (0 : Fin 1) b) (ix2 b (0 : Fin 1)) (fun a => by fin_cases a <;> rfl)]
  rw [shapeCast_apply _ _ (ix2 b (0 : Fin 1)) (ix1 b)
    (by rw [Shape.rowMajor_val_one, Shape.rowMajor_val_two]; show b.val = b.val * 1 + 0; omega)]
  refine (Ideal.multiReduction_add_single _ _ _ _ _ _).trans ?_
  refine Finset.sum_congr rfl fun (t : Fin 16) _ => ?_
  refine (Ideal.multiReduction_add_single _ _ _ _ _ _).trans ?_
  refine Finset.sum_congr rfl fun (n : Fin 207) _ => ?_
  rw [show (reduces_S32x16x207_S32x16.lift (reduces_S32x16_S32.lift (ix1 b) t) n) = ix3 b t n from by
    funext a; fin_cases a <;> rfl]
  rw [mulf_apply, mulf_apply]
  rw [shapeCast_apply p _ (ix3 b t n) (ix2 (⟨b.val * 16 + t.val, by omega⟩ : Fin 512) n)
    (by rw [Shape.rowMajor_val_three, Shape.rowMajor_val_two]; rfl)]
  rw [broadcastTo_apply _ _ (ix3 b t n) (ix3 (0 : Fin 1) t n) (fun a => by fin_cases a <;> rfl)]
  rw [shapeCast_apply k _ (ix3 (0 : Fin 1) t n) (ix2 t n)
    (by rw [Shape.rowMajor_val_three, Shape.rowMajor_val_two]; show t.val * 207 + n.val = (0 * 16 + t.val) * 207 + n.val; omega)]

end Cert.Block

end
-- ==== Proof.Rows.lean ====
/- The ten Mahalanobis forms of one grid point: row `c` is component `c`'s row, and the block it stores is the last
   steps of the body applied to those ten rows. -/
module

public import proofs.«01_k».proof.Proof.Block

@[expose] public section

noncomputable section

namespace Cert.Block

open Cert.KernelIdeal Cert.KernelIdeal.Gen Idealize.ShloMosaic Idealize.ShloMosaic.ValueIdx Idealize.ShloMosaic.Pipeline

/-- Component `c`'s row of Mahalanobis forms, with the loads and the slice at the offsets `c` names. -/
def compRow (D : FVec Ideal S32x160x207 .f32) (x4 : Vec Ideal S1x10 .f32) (x6 : Vec Ideal S10x207x207 .f32) (x7 : Vec Ideal S10x207 .f32)
    (x8 : Vec Ideal S10x16 .f32) (c : Fin 10) : FVec Ideal S1x32 .f32 :=
  k0_pay5 (F := Ideal)
    (prodAt D ![0, 16 * c.val, 0] (by refine ⟨rfl, ?_⟩; intro a; fin_cases a <;> simp [Shape.Slices] <;> omega)
      (View.ld x6 (Rect.unit (s := S10x207x207) ![c.val, 0, 0] S1x207x207.size (by intro a; fin_cases a <;> simp <;> omega))))
    (k0_pay4
      (View.ld x7 (Rect.unit (s := S10x207) ![c.val, 0] S1x207.size (by intro a; fin_cases a <;> simp <;> omega)))
      (View.ld x8 (Rect.unit (s := S10x16) ![c.val, 0] S1x16.size (by intro a; fin_cases a <;> simp <;> omega)))
      (View.ld x4 (Rect.unit (s := S1x10) ![0, c.val] S1x1.size (by intro a; fin_cases a <;> simp <;> omega)))
      (View.ld x4 (Rect.unit (s := S1x10) ![0, c.val] S1x1.size (by intro a; fin_cases a <;> simp <;> omega))))

/-- The ten rows one under another. -/
def quads (D : FVec Ideal S32x160x207 .f32) (x4 : Vec Ideal S1x10 .f32) (x6 : Vec Ideal S10x207x207 .f32) (x7 : Vec Ideal S10x207 .f32)
    (x8 : Vec Ideal S10x16 .f32) : FVec Ideal S10x32 .f32 :=
  concatenate S10x32 0 (List.ofFn fun c : Fin 10 => (⟨S1x32, compRow D x4 x6 x7 x8 c⟩ : (s : Shape) × (s.Idx → EReal)))
    concatenates_S1x32_S1x32_S1x32_S1x32_S1x32_S1x32_S1x32_S1x32_S1x32_S1x32_S10x32_d0

/-- A component's row read at a batch, from the arrays the block holds. -/
theorem compRow_apply (x0 x1 : Vec Ideal S32x207x12 .f32) (x4 : Vec Ideal S1x10 .f32) (x5 : Vec Ideal S12x160 .f32)
    (x6 : Vec Ideal S10x207x207 .f32) (x7 : Vec Ideal S10x207 .f32) (x8 : Vec Ideal S10x16 .f32) (c : Fin 10) (b : Fin 32) :
    compRow (k0_pay2 (F := Ideal) x0 x1 x5) x4 x6 x7 x8 c (ix2 (0 : Fin 1) b)
      = ∑ t : Fin 16, ∑ n' : Fin 207,
          (∑ n : Fin 207, (∑ t0 : Fin 12, (x1 (ix3 b n t0) - x0 (ix3 b n t0)) * x5 (ix2 t0 (⟨16 * c.val + t.val, by omega⟩ : Fin 160))) * x6 (ix3 c n n'))
          * (∑ n : Fin 207, (∑ t0 : Fin 12, (x1 (ix3 b n t0) - x0 (ix3 b n t0)) * x5 (ix2 t0 (⟨16 * c.val + t.val, by omega⟩ : Fin 160))) * x6 (ix3 c n n'))
          * (if t.val < 12 then Ideal.div 1 (x8 (ix2 c t) * x7 (ix2 c n') + x4 (ix2 (0 : Fin 1) c) * x4 (ix2 (0 : Fin 1) c)) else 0) := by
  unfold compRow
  rw [row_apply]
  refine Finset.sum_congr rfl fun t _ => Finset.sum_congr rfl fun n' _ => ?_
  rw [prodAt_apply _ c.val c.isLt, icap_apply]
  have h6 : ∀ n : Fin 207, View.ld x6 (Rect.unit (s := S10x207x207) ![c.val, 0, 0] S1x207x207.size (by intro a; fin_cases a <;> simp <;> omega))
      (ix3 (0 : Fin 1) n n') = x6 (ix3 c n n') := fun n => by
    rw [View.ld_unit]
    exact extractStridedSlice_apply _ _ _ _ _ (fun a => by fin_cases a <;> simp [ix3])
  have h7 : View.ld x7 (Rect.unit (s := S10x207) ![c.val, 0] S1x207.size (by intro a; fin_cases a <;> simp <;> omega))
      (ix2 (0 : Fin 1) n') = x7 (ix2 c n') := by
    rw [View.ld_unit]
    exact extractStridedSlice_apply _ _ _ _ _ (fun a => by fin_cases a <;> simp [ix2])
  have h8 : View.ld x8 (Rect.unit (s := S10x16) ![c.val, 0] S1x16.size (by intro a; fin_cases a <;> simp <;> omega))
      (ix2 (0 : Fin 1) t) = x8 (ix2 c t) := by
    rw [View.ld_unit]
    exact extractStridedSlice_apply _ _ _ _ _ (fun a => by fin_cases a <;> simp [ix2])
  have h4 : View.ld x4 (Rect.unit (s := S1x10) ![0, c.val] S1x1.size (by intro a; fin_cases a <;> simp <;> omega))
      (ix2 (0 : Fin 1) (0 : Fin 1)) = x4 (ix2 (0 : Fin 1) c) := by
    rw [View.ld_unit]
    exact extractStridedSlice_apply _ _ _ _ _ (fun a => by fin_cases a <;> simp [ix2])
  rw [h7, h8, h4]
  simp only [h6, proj_apply]

/-- The rows together, read at (component, batch). -/
theorem quads_apply (D : FVec Ideal S32x160x207 .f32) (x4 : Vec Ideal S1x10 .f32) (x6 : Vec Ideal S10x207x207 .f32) (x7 : Vec Ideal S10x207 .f32)
    (x8 : Vec Ideal S10x16 .f32) (c : Fin 10) (b : Fin 32) :
    quads D x4 x6 x7 x8 (ix2 c b) = compRow D x4 x6 x7 x8 c (ix2 (0 : Fin 1) b) :=
  concatenate_ofFn_unit_apply (t := S10x32) (s₁ := S1x32) 0 (fun c => compRow D x4 x6 x7 x8 c) _ rfl rfl (ix2 c b) c rfl (ix2 (0 : Fin 1) b)
    (fun a ha => by fin_cases a; · exact absurd rfl ha
                    · rfl)

/-- The block a grid point stores: the last steps of the body from the ten rows. -/
theorem out_eq (x0 x1 x2 : Vec Ideal S32x207x12 .f32) (x3 : Vec Ideal S1x10x32 .f32) (x4 : Vec Ideal S1x10 .f32) (x5 : Vec Ideal S12x160 .f32)
    (x6 : Vec Ideal S10x207x207 .f32) (x7 : Vec Ideal S10x207 .f32) (x8 : Vec Ideal S10x16 .f32) (x9 : Vec Ideal S10x207x207 .f32)
    (x10 : Vec Ideal S10x12x12 .f32) :
    out0_11 (F := Ideal) x0 x1 x2 x3 x4 x5 x6 x7 x8 x9 x10
      = k0_pay1 (F := Ideal) (k0_pay34 x2)
          (k0_pay35 x0 x1 (k0_pay32 (quads (k0_pay2 x0 x1 x5) x4 x6 x7 x8) k0_pay30 x9 (k0_pay31 (F := Ideal)) x10 x3) x2)
          k0_pay36 (Scalar.ofBits .f32 0x00000000#32) := by
  unfold out0_11
  rw [View.canon_unit_zero (by funext a; fin_cases a <;> rfl)]
  have e0 : View.ld x0 r0_0 = x0 := View.ld_unit_zero (by funext a; fin_cases a <;> rfl) _ _
  have e1 : View.ld x1 r0_0 = x1 := View.ld_unit_zero (by funext a; fin_cases a <;> rfl) _ _
  have e2 : View.ld x2 r0_0 = x2 := View.ld_unit_zero (by funext a; fin_cases a <;> rfl) _ _
  have e5 : View.ld x5 r0_1 = x5 := View.ld_unit_zero (by funext a; fin_cases a <;> rfl) _ _
  have e9 : View.ld x9 r0_42 = x9 := View.ld_unit_zero (by funext a; fin_cases a <;> rfl) _ _
  have e10 : View.ld x10 r0_43 = x10 := View.ld_unit_zero (by funext a; fin_cases a <;> rfl) _ _
  have e3 : View.ld x3 r0_44 = x3 := View.ld_unit_zero (by funext a; fin_cases a <;> rfl) _ _
  unfold k0_pay38 k0_pay37
  rw [e0, e1, e2, e3, e5, e9, e10]
  rfl

end Cert.Block
-- ==== Proof.Parts.lean ====
/- The three numbers one grid point leaves in its block: minus the sum of its samples' log-likelihoods, the sum of the
   masked absolute errors, and the number of unmasked entries. -/
module

public import proofs.«01_k».proof.Proof.Rows

@[expose] public section

noncomputable section

namespace Cert.Block

open Cert.KernelIdeal Cert.KernelIdeal.Gen Idealize.ShloMosaic Idealize.ShloMosaic.ValueIdx Idealize.ShloMosaic.Pipeline

/-- The integer comparison for equality of two coordinates, as a truth value. -/
theorem cmpi_eq_coord {n : ℕ} (hn : n ≤ 1024) (i j : Fin n) :
    IntOp.cmpi .eq (BitVec.ofNat 32 i.val) (BitVec.ofNat 32 j.val) = BitVec.ofBool (decide (i = j)) := by
  have h : (BitVec.ofNat 32 i.val = BitVec.ofNat 32 j.val) ↔ i = j := by
    constructor
    · intro h
      have := congrArg BitVec.toNat h
      simp only [BitVec.toNat_ofNat] at this
      have hi := i.isLt; have hj := j.isLt
      exact Fin.ext (by omega)
    · rintro rfl; rfl
  show BitVec.ofBool (BitVec.ofNat 32 i.val == BitVec.ofNat 32 j.val) = _
  congr 1
  by_cases e : i = j
  · subst e; simp
  · rw [decide_eq_false e]; exact beq_eq_false_iff_ne.mpr (fun he => e (h.mp he))

/-- A select on a truth value. -/
theorem select_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

/-- Log of 1 is 0. -/
theorem log_one : Ideal.log 1 = 0 := by
  have := Cert.Lse.log_real 1
  rw [EReal.coe_one] at this
  rw [this]; simp

/-- The double sum of the logs of a matrix with its off-diagonal replaced by 1 is the sum of the diagonal's logs. -/
theorem diag_logs {n : ℕ} (f : Fin n → Fin n → EReal) :
    (∑ i : Fin n, ∑ j : Fin n, Ideal.log (if i = j then f i j else 1)) = ∑ i : Fin n, Ideal.log (f i i) := by
  refine Finset.sum_congr rfl fun i _ => ?_
  rw [Finset.sum_eq_single i (fun j _ hj => by rw [if_neg (fun h => hj h.symm), log_one]) (fun h => absurd (Finset.mem_univ i) h), if_pos rfl]

/-- One sample's log-weighted log-density under one component, from the ten rows of forms. -/
def llK (q : FVec Ideal S10x32 .f32) (x9 : Vec Ideal S10x207x207 .f32) (x10 : Vec Ideal S10x12x12 .f32) (x3 : Vec Ideal S1x10x32 .f32)
    (b : Fin 32) (c : Fin 10) : EReal :=
  (((Ideal.ofBits .f32 0xC50EAA4B#32 - Ideal.ofBits .f32 0x3F000000#32 * q (ix2 c b))
      + Ideal.ofBits .f32 0x434F0000#32 * ∑ i : Fin 12, Ideal.log (x10 (ix3 c i i)))
      + Ideal.ofBits .f32 0x41400000#32 * ∑ i : Fin 207, Ideal.log (x9 (ix3 c i i)))
    + Ideal.log (x3 (ix3 (0 : Fin 1) c b))

/-- One sample's log-sum-exp, by way of the largest entry. -/
def lseK (q : FVec Ideal S10x32 .f32) (x9 : Vec Ideal S10x207x207 .f32) (x10 : Vec Ideal S10x12x12 .f32) (x3 : Vec Ideal S1x10x32 .f32)
    (b : Fin 32) : EReal :=
  Ideal.log (∑ c : Fin 10, Ideal.exp (llK q x9 x10 x3 b c - (Finset.univ : Finset (Fin 10)).fold max ⊥ (llK q x9 x10 x3 b)))
    + (Finset.univ : Finset (Fin 10)).fold max ⊥ (llK q x9 x10 x3 b)

/-- The space factors' log-diagonals, as the body sums them. -/
theorem space_logs (x9 : Vec Ideal S10x207x207 .f32) (c : Fin 10) :
    multiReduction (F := Ideal) .add [1] S10 (multiReduction (F := Ideal) .add [2] S10x207 (log (F := Ideal) (φ := .f32) (select (k0_pay30) x9 (k0_pay31 (F := Ideal))))
      0x00000000#32 reduces_S10x207x207_S10x207 (.inl rfl) rfl) 0x00000000#32 reduces_S10x207_S10 (.inl rfl) rfl (ix1 c)
      = ∑ i : Fin 207, Ideal.log (x9 (ix3 c i i)) := by
  refine (Ideal.multiReduction_add_single _ _ _ _ _ _).trans ?_
  refine Eq.trans ?_ (diag_logs fun i j => x9 (ix3 c i j))
  refine Finset.sum_congr rfl fun (i : Fin 207) _ => ?_
  refine (Ideal.multiReduction_add_single _ _ _ _ _ _).trans ?_
  refine Finset.sum_congr rfl fun (j : Fin 207) _ => ?_
  rw [show (reduces_S10x207x207_S10x207.lift (reduces_S10x207_S10.lift (ix1 c) i) j) = ix3 c i j from by
    funext a; fin_cases a <;> rfl]
  show Ideal.log (Scalar.select (IntOp.cmpi .eq (iota .tc S10x207x207 32 [1] iota_S10x207x207_d1_w32 (ix3 c i j)) (iota .tc S10x207x207 32 [2] iota_S10x207x207_d2_w32 (ix3 c i j)))
    (x9 (ix3 c i j)) (Ideal.ofBits .f32 0x3F800000#32)) = _
  rw [iota_single_apply, iota_single_apply]
  show Ideal.log (Scalar.select (IntOp.cmpi .eq (BitVec.ofNat 32 i.val) (BitVec.ofNat 32 j.val)) _ _) = _
  rw [cmpi_eq_coord (by norm_num), select_ofBool, ofBits_one]

/-- The time factors' log-diagonals, as the body sums them. -/
theorem time_logs (m : IVec S10x12x12 1) (hm : m = cmpi .eq (iota .tc S10x12x12 32 [1] iota_S10x12x12_d1_w32) (iota .tc S10x12x12 32 [2] iota_S10x12x12_d2_w32))
    (x10 : Vec Ideal S10x12x12 .f32) (c : Fin 10) :
    multiReduction (F := Ideal) .add [1] S10 (multiReduction (F := Ideal) .add [2] S10x12 (log (F := Ideal) (φ := .f32) (select m x10 (broadcast S10x12x12 (Scalar.ofBits (F := Ideal) .f32 0x3F800000#32))))
      0x00000000#32 reduces_S10x12x12_S10x12 (.inl rfl) rfl) 0x00000000#32 reduces_S10x12_S10 (.inl rfl) rfl (ix1 c)
      = ∑ i : Fin 12, Ideal.log (x10 (ix3 c i i)) := by
  subst hm
  refine (Ideal.multiReduction_add_single _ _ _ _ _ _).trans ?_
  refine Eq.trans ?_ (diag_logs fun i j => x10 (ix3 c i j))
  refine Finset.sum_congr rfl fun (i : Fin 12) _ => ?_
  refine (Ideal.multiReduction_add_single _ _ _ _ _ _).trans ?_
  refine Finset.sum_congr rfl fun (j : Fin 12) _ => ?_
  rw [show (reduces_S10x12x12_S10x12.lift (reduces_S10x12_S10.lift (ix1 c) i) j) = ix3 c i j from by
    funext a; fin_cases a <;> rfl]
  show Ideal.log (Scalar.select (IntOp.cmpi .eq (iota .tc S10x12x12 32 [1] iota_S10x12x12_d1_w32 (ix3 c i j)) (iota .tc S10x12x12 32 [2] iota_S10x12x12_d2_w32 (ix3 c i j)))
    (x10 (ix3 c i j)) (Ideal.ofBits .f32 0x3F800000#32)) = _
  rw [iota_single_apply, iota_single_apply]
  show Ideal.log (Scalar.select (IntOp.cmpi .eq (BitVec.ofNat 32 i.val) (BitVec.ofNat 32 j.val)) _ _) = _
  rw [cmpi_eq_coord (by norm_num), select_ofBool, ofBits_one]

/-- The bits of minus infinity. -/
theorem ofBits_neg_inf : Ideal.ofBits .f32 0xFF800000#32 = ⊥ := by
  simp [Ideal.ofBits, Ideal.ieee]

/-- The log-sum-exp of a table of ten rows over thirty-two samples, with its largest entry taken out first. -/
theorem lse_table (L : FVec Ideal S10x32 .f32) (b : Fin 32) :
    (have v388 : FVec Ideal S32 .f32 := multiReduction .maximumf [0] S32 L 0xFF800000#32 reduces_S10x32_S32 (.inl rfl) rfl
     have v389 : FVec Ideal S1x32 .f32 := shapeCast S1x32 v388 shapeCasts_S32_S1x32
     have v390 : FVec Ideal S10x32 .f32 := broadcastTo S10x32 v389 broadcasts_S1x32_S10x32
     have v391 : FVec Ideal S10x32 .f32 := subf L v390
     have v392 : FVec Ideal S10x32 .f32 := exp v391
     have v393 : FVec Ideal S32 .f32 := multiReduction .add [0] S32 v392 0x00000000#32 reduces_S10x32_S32 (.inl rfl) rfl
     have v394 : FVec Ideal S1x32 .f32 := shapeCast S1x32 v393 shapeCasts_S32_S1x32
     have v395 : FVec Ideal S1x32 .f32 := log v394
     have v396 : FVec Ideal S1x32 .f32 := addf v395 v389
     have v397 : FVec Ideal S1x1x32 .f32 := shapeCast S1x1x32 v396 shapeCasts_S1x32_S1x1x32
     v397) (ix3 (0 : Fin 1) (0 : Fin 1) b)
      = Ideal.log (∑ c : Fin 10, Ideal.exp (L (ix2 c b) - (Finset.univ : Finset (Fin 10)).fold max ⊥ (fun c => L (ix2 c b))))
        + (Finset.univ : Finset (Fin 10)).fold max ⊥ (fun c => L (ix2 c b)) := by
  dsimp only
  have hl : ∀ c : Fin 10, reduces_S10x32_S32.lift (ix1 b) c = ix2 c b := fun c => by funext a; fin_cases a <;> rfl
  have hmax : multiReduction (F := Ideal) .maximumf [0] S32 L 0xFF800000#32 reduces_S10x32_S32 (.inl rfl) rfl (ix1 b)
      = (Finset.univ : Finset (Fin 10)).fold max ⊥ (fun c => L (ix2 c b)) := by
    refine (Ideal.multiReduction_maximumf_single _ _ _ _ _ _).trans ?_
    rw [show (FloatOps.ofBits (F := Ideal) .f32 0xFF800000#32) = (⊥ : EReal) from ofBits_neg_inf]
    exact Finset.fold_congr fun c _ => congrArg L (hl c)
  have hrow : ∀ x : FVec Ideal S32 .f32, shapeCast S1x32 x shapeCasts_S32_S1x32 (ix2 (0 : Fin 1) b) = x (ix1 b) := fun x =>
    shapeCast_apply _ _ _ _ (by rw [Shape.rowMajor_val_one, Shape.rowMajor_val_two]; show b.val = 0 * 32 + b.val; omega)
  rw [shapeCast_apply _ _ (ix3 (0 : Fin 1) (0 : Fin 1) b) (ix2 (0 : Fin 1) b)
    (by rw [Shape.rowMajor_val_three, Shape.rowMajor_val_two]; rfl)]
  rw [addf_apply, hrow, hmax]
  refine congrArg (· + _) ?_
  show Ideal.log (shapeCast S1x32 _ shapeCasts_S32_S1x32 (ix2 (0 : Fin 1) b)) = _
  rw [hrow]
  refine congrArg Ideal.log ?_
  refine (Ideal.multiReduction_add_single _ _ _ _ _ _).trans ?_
  refine Finset.sum_congr rfl fun (c : Fin 10) _ => ?_
  rw [hl c]
  show Ideal.exp (L (ix2 c b) - broadcastTo S10x32 _ broadcasts_S1x32_S10x32 (ix2 c b)) = _
  rw [broadcastTo_apply _ _ (ix2 c b) (ix2 (0 : Fin 1) b) (fun a => by fin_cases a <;> rfl), hrow, hmax]

/-- The last table of a block: one log-sum-exp per sample. -/
theorem lse_apply (q : FVec Ideal S10x32 .f32) (x9 : Vec Ideal S10x207x207 .f32) (x10 : Vec Ideal S10x12x12 .f32) (x3 : Vec Ideal S1x10x32 .f32)
    (b : Fin 32) :
    k0_pay32 (F := Ideal) q k0_pay30 x9 (k0_pay31 (F := Ideal)) x10 x3 (ix3 (0 : Fin 1) (0 : Fin 1) b) = lseK q x9 x10 x3 b := by
  unfold k0_pay32
  refine (lse_table _ b).trans ?_
  have hrow : ∀ (x : FVec Ideal S10 .f32) (c : Fin 10), shapeCast S10x1 x shapeCasts_S10_S10x1 (ix2 c (0 : Fin 1)) = x (ix1 c) := fun x c =>
    shapeCast_apply _ _ _ _ (by rw [Shape.rowMajor_val_one, Shape.rowMajor_val_two]; show c.val = c.val * 1 + 0; omega)
  have hb : ∀ (x : FVec Ideal S10x1 .f32) (c : Fin 10), broadcastTo S10x32 x broadcasts_S10x1_S10x32 (ix2 c b) = x (ix2 c (0 : Fin 1)) := fun x c =>
    broadcastTo_apply _ _ _ _ (fun a => by fin_cases a <;> rfl)
  unfold lseK
  refine congrArg (fun g : Fin 10 → EReal => Ideal.log (∑ c : Fin 10, Ideal.exp (g c - (Finset.univ : Finset (Fin 10)).fold max ⊥ g))
        + (Finset.univ : Finset (Fin 10)).fold max ⊥ g) ?_
  funext c
  unfold llK
  rw [addf_apply, addf_apply, addf_apply, subf_apply, mulf_apply, broadcast_apply, broadcast_apply]
  rw [hb, hb, mulf_apply, mulf_apply, broadcast_apply, broadcast_apply, hrow, hrow, space_logs, time_logs _ rfl]
  show _ + Ideal.log (shapeCast S10x32 _ shapeCasts_S1x10x32_S10x32 (ix2 c b)) = _
  rw [shapeCast_self, shapeCast_apply x3 _ (ix2 c b) (ix3 (0 : Fin 1) c b)
    (by rw [Shape.rowMajor_val_three, Shape.rowMajor_val_two]; show (0 * 10 + c.val) * 32 + b.val = c.val * 32 + b.val; omega)]
  rfl

/-- The mask the kernel builds from the unscaled targets. -/
def maskK (x2 : Vec Ideal S32x207x12 .f32) (i : S32x207x12.Idx) : EReal := if x2 i ≠ 0 then 1 else 0

/-- … is what the body computes. -/
theorem mask_apply (x2 : Vec Ideal S32x207x12 .f32) (i : S32x207x12.Idx) : k0_pay33 (F := Ideal) x2 i = maskK x2 i := by
  unfold k0_pay33 maskK
  show Scalar.select (BitVec.ofBool (decide (x2 i ≠ Ideal.ofBits .f32 0x00000000#32))) (Ideal.ofBits .f32 0x3F800000#32) (Ideal.ofBits .f32 0x00000000#32) = _
  rw [select_ofBool, ofBits_one, Ideal.ofBits_zero_f32]

/-- A sum over a block with a leading unit axis is the sum over the block. -/
theorem total_lead (x : FVec Ideal S32x207x12 .f32) :
    (∑ i : S1x32x207x12.Idx, shapeCast S1x32x207x12 x shapeCasts_S32x207x12_S1x32x207x12 i) = ∑ i : S32x207x12.Idx, x i := by
  unfold shapeCast
  exact Equiv.sum_comp (Equiv.trans S1x32x207x12.rowMajor (Equiv.trans (finCongr rfl) S32x207x12.rowMajor.symm)) x

/-- A sum over three-dimensional indices, coordinate by coordinate. -/
theorem sum_idx3 {n0 n1 n2 : ℕ} (f : (⟨3, ![n0, n1, n2]⟩ : Shape).Idx → EReal) :
    ∑ i, f i = ∑ a : Fin n0, ∑ b : Fin n1, ∑ c : Fin n2, f (ix3 a b c) := by
  let e : (Fin n0 × Fin n1 × Fin n2) ≃ (⟨3, ![n0, n1, n2]⟩ : Shape).Idx :=
    { toFun := fun p => ix3 p.1 p.2.1 p.2.2
      invFun := fun i => (i 0, i 1, i 2)
      left_inv := fun p => rfl
      right_inv := fun i => by funext a; fin_cases a <;> rfl }
  rw [← Equiv.sum_comp e f, Fintype.sum_prod_type]
  refine Finset.sum_congr rfl fun a _ => ?_
  rw [Fintype.sum_prod_type]
  rfl

/-- A sum over every axis into one entry, taken out as a scalar, is the sum over all the indices. -/
theorem total_apply {s : Shape} {axes : List (Fin s.rank)} (src : FVec Ideal s .f32) (h : s.Reduces axes S1) (hφ : FKind.Formats .f32)
    (hacc : 0x00000000#32 = FKind.add.neutral .f32 hφ) (j : S1.Idx) :
    multiReduction (F := Ideal) .add axes S1 src 0x00000000#32 h hφ hacc j = ∑ i : s.Idx, src i :=
  Ideal.multiReduction_add_total src _ h (by decide) hφ hacc j

/-- How many entries of a block's mask are set. -/
theorem count_apply (x2 : Vec Ideal S32x207x12 .f32) : k0_pay34 (F := Ideal) x2 = ∑ i : S32x207x12.Idx, maskK x2 i := by
  unfold k0_pay34
  dsimp only
  refine Eq.trans (b := ∑ i : S1x32x207x12.Idx, shapeCast S1x32x207x12 (k0_pay33 (F := Ideal) x2) shapeCasts_S32x207x12_S1x32x207x12 i) ?_ ?_
  · exact total_apply _ reduces_S1x32x207x12_S1 (.inl rfl) rfl _
  · exact (total_lead _).trans (Finset.sum_congr rfl fun i _ => mask_apply x2 i)

/-- A select on a lane's number. -/
theorem lane_select (l k : Fin 128) (v : BitVec 32) (hv : v = BitVec.ofNat 32 k.val) (x y : EReal) :
    Scalar.select (cmpi .eq (iota .tc S1x1x128 32 [2] iota_S1x1x128_d2_w32) (broadcast S1x1x128 v) (ix3 (0 : Fin 1) (0 : Fin 1) l)) x y
      = if l = k then x else y := by
  subst hv
  show Scalar.select (IntOp.cmpi .eq (iota .tc S1x1x128 32 [2] iota_S1x1x128_d2_w32 (ix3 (0 : Fin 1) (0 : Fin 1) l)) (BitVec.ofNat 32 k.val)) x y = _
  rw [iota_single_apply]
  exact (congrArg (fun c => Scalar.select c x y) (cmpi_eq_coord (by norm_num) l k)).trans (select_ofBool _ _ _)

/-- The stored block at a lane: each of the three numbers stands in its own lane and nothing elsewhere. -/
theorem out_apply (x0 x1 x2 : Vec Ideal S32x207x12 .f32) (x3 : Vec Ideal S1x10x32 .f32) (x4 : Vec Ideal S1x10 .f32) (x5 : Vec Ideal S12x160 .f32)
    (x6 : Vec Ideal S10x207x207 .f32) (x7 : Vec Ideal S10x207 .f32) (x8 : Vec Ideal S10x16 .f32) (x9 : Vec Ideal S10x207x207 .f32)
    (x10 : Vec Ideal S10x12x12 .f32) (l : Fin 128) :
    out0_11 (F := Ideal) x0 x1 x2 x3 x4 x5 x6 x7 x8 x9 x10 (ix3 (0 : Fin 1) (0 : Fin 1) l)
      = ((if l = 0 then 0 - ∑ b : Fin 32, lseK (quads (k0_pay2 x0 x1 x5) x4 x6 x7 x8) x9 x10 x3 b else 0)
          + (if l = 1 then ∑ i : S32x207x12.Idx, max (x1 i - x0 i) (-(x1 i - x0 i)) * maskK x2 i else 0))
        + (if l = 2 then ∑ i : S32x207x12.Idx, maskK x2 i else 0) := by
  rw [out_eq]
  unfold k0_pay1
  rw [addf_apply]
  refine congrArg₂ (· + ·) ?_ ?_
  · unfold k0_pay35
    dsimp only
    rw [addf_apply]
    refine congrArg₂ (· + ·) ?_ ?_
    · rw [select_apply, broadcast_apply, broadcast_apply]
      refine (lane_select l 0 _ rfl _ _).trans ?_
      refine congrArg₂ (fun x y : EReal => if l = 0 then x else y) ?_ Ideal.ofBits_zero_f32
      show Ideal.ofBits .f32 0x00000000#32 - _ = _
      rw [Ideal.ofBits_zero_f32]
      refine congrArg (0 - ·) ?_
      refine Eq.trans (b := ∑ i : S1x1x32.Idx, k0_pay32 (F := Ideal) (quads (k0_pay2 x0 x1 x5) x4 x6 x7 x8) k0_pay30 x9 (k0_pay31 (F := Ideal)) x10 x3 i) ?_ ?_
      · exact total_apply _ reduces_S1x1x32_S1 (.inl rfl) rfl _
      · refine (sum_idx3 _).trans ?_
        rw [Fin.sum_univ_one, Fin.sum_univ_one]
        exact Finset.sum_congr rfl fun b _ => lse_apply _ _ _ _ b
    · rw [select_apply, broadcast_apply, broadcast_apply]
      refine (lane_select l 1 _ rfl _ _).trans ?_
      refine congrArg₂ (fun x y : EReal => if l = 1 then x else y) ?_ Ideal.ofBits_zero_f32
      refine Eq.trans (b := ∑ i : S1x32x207x12.Idx, shapeCast S1x32x207x12 (mulf (F := Ideal) (φ := .f32) (absf (F := Ideal) (φ := .f32) (subf (F := Ideal) (φ := .f32) x1 x0)) (k0_pay33 (F := Ideal) x2)) shapeCasts_S32x207x12_S1x32x207x12 i) ?_ ?_
      · exact total_apply _ reduces_S1x32x207x12_S1 (.inl rfl) rfl _
      · exact (total_lead _).trans (Finset.sum_congr rfl fun i _ => by rw [mulf_apply, mask_apply]; rfl)
  · unfold k0_pay36
    rw [select_apply, broadcast_apply, broadcast_apply]
    refine (lane_select l 2 _ rfl _ _).trans ?_
    rw [count_apply]
    exact congrArg (fun y : EReal => if l = 2 then _ else y) Ideal.ofBits_zero_f32

end Cert.Block
-- ==== Proof.Arrays.lean ====
/- What the launch finds in the arrays the host prepares: the stacked temporal factors, the padded temporal
   eigenvalues, the mixture weights in the block's layout, and sigma as a row. -/
module

public import proofs.«01_k».proof.Proof.Parts
public import Idealize.ShloMosaic.Lib.KernelVsHost
public import Idealize.ShloMosaic.Lib.StableHlo.RunRead

@[expose] public section

noncomputable section

namespace Cert.Block

open Cert.KernelIdeal Cert.KernelIdeal.Gen Idealize.ShloMosaic Idealize.ShloMosaic.ValueIdx Idealize.ShloMosaic.Pipeline Idealize.ShloMosaic.TcCoe
open Idealize.SL.Sem

variable (m : (ℓ : Loc nD τ sig) → Buf (Elt Ideal) ℓ) (c : Dev nD)

/-- The stacked temporal factors, as terms of the argument. -/
theorem utcat_eq : (V m c main_v2 : Vec Ideal S12x160 .f32)
    = shapeCast S12x160 (transpose S12x10x16 [1, 0, 2]
        (pad S10x12x16 ![0, 0, 0] ![0, 0, 4] ![0, 0, 0] (m ((c : Thread nD τ).loc main_arg11) : Vec Ideal S10x12x12 .f32)
          (sitofp .f32 (constantI S_ 32 0#32) : FVec Ideal S_ .f32) pads_S10x12x12_S10x12x16_000_000_040 h_S_)
        transposes_S10x12x16_S12x10x16_1_0_2) shapeCasts_S12x10x16_S12x160 := by
  show StableHlo.after (List.flatten [hostOps0, hostOps0_1, hostOps0_2, hostOps0_3, hostOps0_4]) _ (Proc.devRef .tc main_v2) = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_reads_simp
  rfl

/-- The padded temporal eigenvalues, as terms of the argument. -/
theorem dtp_eq : (V m c main_v3 : Vec Ideal S10x16 .f32)
    = pad S10x16 ![0, 0] ![0, 4] ![0, 0] (m ((c : Thread nD τ).loc main_arg10) : Vec Ideal S10x12 .f32)
        (sitofp .f32 (constantI S_ 32 0#32) : FVec Ideal S_ .f32) pads_S10x12_S10x16_000_040 h_S_ := by
  show StableHlo.after (List.flatten [hostOps0, hostOps0_1, hostOps0_2, hostOps0_3, hostOps0_4]) _ (Proc.devRef .tc main_v3) = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_reads_simp

/-- The mixture weights in the block's layout, as terms of the argument. -/
theorem wT_eq : (V m c main_v7 : Vec Ideal S2x10x32 .f32)
    = transpose S2x10x32 [1, 0, 2] (shapeCast S10x2x32 (transpose S10x64 [1, 0]
        (shapeCast S64x10 (m ((c : Thread nD τ).loc main_arg3) : Vec Ideal S64x10x1 .f32) shapeCasts_S64x10x1_S64x10)
        transposes_S64x10_S10x64_1_0) shapeCasts_S10x64_S10x2x32) transposes_S10x2x32_S2x10x32_1_0_2 := by
  show StableHlo.after (List.flatten [hostOps0, hostOps0_1, hostOps0_2, hostOps0_3, hostOps0_4]) _ (Proc.devRef .tc main_v7) = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_reads_simp
  rfl

/-- Sigma as a row, as a term of the argument. -/
theorem sig_eq : (V m c main_v8 : Vec Ideal S1x10 .f32)
    = shapeCast S1x10 (m ((c : Thread nD τ).loc main_arg4) : Vec Ideal S10 .f32) shapeCasts_S10_S1x10 := by
  show StableHlo.after (List.flatten [hostOps0, hostOps0_1, hostOps0_2, hostOps0_3, hostOps0_4]) _ (Proc.devRef .tc main_v8) = _
  simp only [hostOps0, hostOps0_1, hostOps0_2, hostOps0_3, hostOps0_4, List.flatten_cons, List.flatten_nil, List.append_nil, List.cons_append,
    List.nil_append, StableHlo.TRef.binary, StableHlo.TRef.unary, StableHlo.TRef.toBuf, StableHlo.TRef.ofBuf, cast_eq]
  after_reads_simp
  rfl

/-- The stacked temporal factors at (time, stacked column) off the padding. -/
theorem utcat_apply (t : Fin 12) (k : Fin 10) (t' : Fin 12) :
    (V m c main_v2 : Vec Ideal S12x160 .f32) (ix2 t (⟨16 * k.val + t'.val, by omega⟩ : Fin 160))
      = (m ((c : Thread nD τ).loc main_arg11) : Vec Ideal S10x12x12 .f32) (ix3 k t t') := by
  rw [utcat_eq]
  rw [shapeCast_apply _ _ (ix2 t (⟨16 * k.val + t'.val, by omega⟩ : Fin 160)) (ix3 t k (⟨t'.val, by omega⟩ : Fin 16))
    (by rw [Shape.rowMajor_val_three, Shape.rowMajor_val_two]; show (t.val * 10 + k.val) * 16 + t'.val = t.val * 160 + (16 * k.val + t'.val); omega)]
  rw [transpose_apply _ _ _ (ix3 t k (⟨t'.val, by omega⟩ : Fin 16)) (ix3 k t (⟨t'.val, by omega⟩ : Fin 16)) (fun a => by fin_cases a <;> rfl)]
  exact pad_apply_of_inside _ _ _ _ _ _ _ _ (ix3 k t t') (fun a => by fin_cases a <;> simp [ix3])

/-- The padded temporal eigenvalues off the padding. -/
theorem dtp_apply (k : Fin 10) (t' : Fin 12) :
    (V m c main_v3 : Vec Ideal S10x16 .f32) (ix2 k (⟨t'.val, by omega⟩ : Fin 16))
      = (m ((c : Thread nD τ).loc main_arg10) : Vec Ideal S10x12 .f32) (ix2 k t') := by
  rw [dtp_eq]
  exact pad_apply_of_inside _ _ _ _ _ _ _ _ (ix2 k t') (fun a => by fin_cases a <;> simp [ix2])

/-- The weights' layout: entry (half, component, row in the half). -/
theorem wT_apply (i : Fin 2) (k : Fin 10) (b : Fin 32) :
    (V m c main_v7 : Vec Ideal S2x10x32 .f32) (ix3 i k b)
      = (m ((c : Thread nD τ).loc main_arg3) : Vec Ideal S64x10x1 .f32) (ix3 (⟨32 * i.val + b.val, by omega⟩ : Fin 64) k (0 : Fin 1)) := by
  rw [wT_eq]
  rw [transpose_apply _ _ _ (ix3 i k b) (ix3 k i b) (fun a => by fin_cases a <;> rfl)]
  rw [shapeCast_apply _ _ (ix3 k i b) (ix2 k (⟨32 * i.val + b.val, by omega⟩ : Fin 64))
    (by rw [Shape.rowMajor_val_three, Shape.rowMajor_val_two]; show k.val * 64 + (32 * i.val + b.val) = (k.val * 2 + i.val) * 32 + b.val; omega)]
  rw [transpose_apply _ _ _ (ix2 k (⟨32 * i.val + b.val, by omega⟩ : Fin 64)) (ix2 (⟨32 * i.val + b.val, by omega⟩ : Fin 64) k) (fun a => by fin_cases a <;> rfl)]
  exact shapeCast_apply _ _ _ _
    (by change (S64x10x1.rowMajor (ix3 (⟨32 * i.val + b.val, by omega⟩ : Fin 64) k (0 : Fin 1))).val = (S64x10.rowMajor _).val
        rw [Shape.rowMajor_val_three, Shape.rowMajor_val_two]; show ((32 * i.val + b.val) * 10 + k.val) * 1 + 0 = (32 * i.val + b.val) * 10 + k.val; omega)

/-- Sigma's row. -/
theorem sig_apply (k : Fin 10) :
    (V m c main_v8 : Vec Ideal S1x10 .f32) (ix2 (0 : Fin 1) k) = (m ((c : Thread nD τ).loc main_arg4) : Vec Ideal S10 .f32) (ix1 k) := by
  rw [sig_eq]
  exact shapeCast_apply _ _ _ _
    (by change (S10.rowMajor (ix1 k)).val = (S1x10.rowMajor _).val
        rw [Shape.rowMajor_val_one, Shape.rowMajor_val_two]; show k.val = 0 * 10 + k.val; omega)

end Cert.Block
-- ==== Proof.Windows.lean ====
/- What the launch leaves in its result array: at grid point `t` every window's block is the whole array, or rows
   `32 t` to `32 t + 31` of it, and the two stored blocks are the two rows of the result array. -/
module

public import proofs.«01_k».proof.Proof.Arrays

@[expose] public section

noncomputable section

namespace Cert.Block

open Cert.KernelIdeal Cert.KernelIdeal.Gen Idealize.ShloMosaic Idealize.ShloMosaic.ValueIdx Idealize.ShloMosaic.Pipeline Idealize.ShloMosaic.TcCoe
open Idealize.SL.Sem

variable (m : (ℓ : Loc nD τ sig) → Buf (Elt Ideal) ℓ) (c : Dev nD)

/-- Row `b` of grid point `t`'s half of the batch. -/
def rowOf (t : Fin cfg0.N) (b : Fin 32) : Fin 64 := ⟨32 * t.val + b.val, by have h : cfg0.N = 2 := N_0; have := t.isLt; have := b.isLt; omega⟩

/-- The means' block. -/
theorem blk_mu (t : Fin cfg0.N) (b : Fin 32) (n : Fin 207) (k : Fin 12) :
    (iblk m c 0 t : Vec Ideal S32x207x12 .f32) (ix3 b n k) = (m ((c : Thread nD τ).loc main_arg0) : Vec Ideal S64x207x12 .f32) (ix3 (rowOf t b) n k) := by
  have hi : win0_0.index t 0 = t.val ∧ win0_0.index t 1 = 0 ∧ win0_0.index t 2 = 0 := by rcases fin_N0 t with rfl | rfl <;> decide
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 32 + 1 * b.val = 32 * t.val + b.val; rw [hi.1]; omega
  | ⟨1, _⟩ => show win0_0.index t 1 * 207 + 1 * n.val = n.val; rw [hi.2.1]; omega
  | ⟨2, _⟩ => show win0_0.index t 2 * 12 + 1 * k.val = k.val; rw [hi.2.2]; omega

/-- The targets' block. -/
theorem blk_tg (t : Fin cfg0.N) (b : Fin 32) (n : Fin 207) (k : Fin 12) :
    (iblk m c 1 t : Vec Ideal S32x207x12 .f32) (ix3 b n k) = (m ((c : Thread nD τ).loc main_arg1) : Vec Ideal S64x207x12 .f32) (ix3 (rowOf t b) n k) := by
  have hi : win0_1.index t 0 = t.val ∧ win0_1.index t 1 = 0 ∧ win0_1.index t 2 = 0 := by rcases fin_N0 t with rfl | rfl <;> decide
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 32 + 1 * b.val = 32 * t.val + b.val; rw [hi.1]; omega
  | ⟨1, _⟩ => show win0_1.index t 1 * 207 + 1 * n.val = n.val; rw [hi.2.1]; omega
  | ⟨2, _⟩ => show win0_1.index t 2 * 12 + 1 * k.val = k.val; rw [hi.2.2]; omega

/-- The unscaled targets' block. -/
theorem blk_un (t : Fin cfg0.N) (b : Fin 32) (n : Fin 207) (k : Fin 12) :
    (iblk m c 2 t : Vec Ideal S32x207x12 .f32) (ix3 b n k) = (m ((c : Thread nD τ).loc main_arg2) : Vec Ideal S64x207x12 .f32) (ix3 (rowOf t b) n k) := by
  have hi : win0_2.index t 0 = t.val ∧ win0_2.index t 1 = 0 ∧ win0_2.index t 2 = 0 := by rcases fin_N0 t with rfl | rfl <;> decide
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 32 + 1 * b.val = 32 * t.val + b.val; rw [hi.1]; omega
  | ⟨1, _⟩ => show win0_2.index t 1 * 207 + 1 * n.val = n.val; rw [hi.2.1]; omega
  | ⟨2, _⟩ => show win0_2.index t 2 * 12 + 1 * k.val = k.val; rw [hi.2.2]; omega

/-- The weights' block. -/
theorem blk_w (t : Fin cfg0.N) (k : Fin 10) (b : Fin 32) :
    (iblk m c 3 t : Vec Ideal S1x10x32 .f32) (ix3 (0 : Fin 1) k b)
      = (m ((c : Thread nD τ).loc main_arg3) : Vec Ideal S64x10x1 .f32) (ix3 (rowOf t b) k (0 : Fin 1)) := by
  have hN : cfg0.N = 2 := N_0
  have hi : win0_3.index t 0 = t.val ∧ win0_3.index t 1 = 0 ∧ win0_3.index t 2 = 0 := by rcases fin_N0 t with rfl | rfl <;> decide
  refine Eq.trans ?_ (wT_apply m c (⟨t.val, by have := t.isLt; omega⟩ : Fin 2) k b)
  unfold iblk
  rw [View.read_apply]
  refine congrArg (V m c main_v7) (funext fun a => Fin.ext ?_)
  match a with
  | ⟨0, _⟩ => show win0_3.index t 0 * 1 + 1 * 0 = t.val; rw [hi.1]; omega
  | ⟨1, _⟩ => show win0_3.index t 1 * 10 + 1 * k.val = k.val; rw [hi.2.1]; omega
  | ⟨2, _⟩ => show win0_3.index t 2 * 32 + 1 * b.val = b.val; rw [hi.2.2]; omega

/-- Sigma's block is the whole row. -/
theorem blk_sig (t : Fin cfg0.N) : (iblk m c 4 t : Vec Ideal S1x10 .f32) = V m c main_v8 := by
  have hi : win0_4.index t 0 = 0 ∧ win0_4.index t 1 = 0 := by rcases fin_N0 t with rfl | rfl <;> decide
  funext j
  unfold iblk
  rw [View.read_apply]
  refine congrArg (V m c main_v8) (funext fun a => Fin.ext ?_)
  match a with
  | ⟨0, _⟩ => show win0_4.index t 0 * 1 + 1 * (j 0).val = (j 0).val; rw [hi.1]; omega
  | ⟨1, _⟩ => show win0_4.index t 1 * 10 + 1 * (j 1).val = (j 1).val; rw [hi.2]; omega

/-- The stacked temporal factors' block is the whole array. -/
theorem blk_ut (t : Fin cfg0.N) : (iblk m c 5 t : Vec Ideal S12x160 .f32) = V m c main_v2 := by
  have hi : win0_5.index t 0 = 0 ∧ win0_5.index t 1 = 0 := by rcases fin_N0 t with rfl | rfl <;> decide
  funext j
  unfold iblk
  rw [View.read_apply]
  refine congrArg (V m c main_v2) (funext fun a => Fin.ext ?_)
  match a with
  | ⟨0, _⟩ => show win0_5.index t 0 * 12 + 1 * (j 0).val = (j 0).val; rw [hi.1]; omega
  | ⟨1, _⟩ => show win0_5.index t 1 * 160 + 1 * (j 1).val = (j 1).val; rw [hi.2]; omega

/-- The spatial factors' block is the whole array. -/
theorem blk_us (t : Fin cfg0.N) : (iblk m c 6 t : Vec Ideal S10x207x207 .f32) = m ((c : Thread nD τ).loc main_arg9) := by
  have hi : win0_6.index t 0 = 0 ∧ win0_6.index t 1 = 0 ∧ win0_6.index t 2 = 0 := by rcases fin_N0 t with rfl | rfl <;> decide
  funext j
  unfold iblk
  rw [View.read_apply]
  show V m c main_arg9 _ = _
  rw [V_main_arg9]
  refine congrArg (m ((c : Thread nD τ).loc main_arg9)) (funext fun a => Fin.ext ?_)
  match a with
  | ⟨0, _⟩ => show win0_6.index t 0 * 10 + 1 * (j 0).val = (j 0).val; rw [hi.1]; omega
  | ⟨1, _⟩ => show win0_6.index t 1 * 207 + 1 * (j 1).val = (j 1).val; rw [hi.2.1]; omega
  | ⟨2, _⟩ => show win0_6.index t 2 * 207 + 1 * (j 2).val = (j 2).val; rw [hi.2.2]; omega

/-- The spatial eigenvalues' block is the whole array. -/
theorem blk_ds (t : Fin cfg0.N) : (iblk m c 7 t : Vec Ideal S10x207 .f32) = m ((c : Thread nD τ).loc main_arg8) := by
  have hi : win0_7.index t 0 = 0 ∧ win0_7.index t 1 = 0 := by rcases fin_N0 t with rfl | rfl <;> decide
  funext j
  unfold iblk
  rw [View.read_apply]
  show V m c main_arg8 _ = _
  rw [V_main_arg8]
  refine congrArg (m ((c : Thread nD τ).loc main_arg8)) (funext fun a => Fin.ext ?_)
  match a with
  | ⟨0, _⟩ => show win0_7.index t 0 * 10 + 1 * (j 0).val = (j 0).val; rw [hi.1]; omega
  | ⟨1, _⟩ => show win0_7.index t 1 * 207 + 1 * (j 1).val = (j 1).val; rw [hi.2]; omega

/-- The padded temporal eigenvalues' block is the whole array. -/
theorem blk_dt (t : Fin cfg0.N) : (iblk m c 8 t : Vec Ideal S10x16 .f32) = V m c main_v3 := by
  have hi : win0_8.index t 0 = 0 ∧ win0_8.index t 1 = 0 := by rcases fin_N0 t with rfl | rfl <;> decide
  funext j
  unfold iblk
  rw [View.read_apply]
  refine congrArg (V m c main_v3) (funext fun a => Fin.ext ?_)
  match a with
  | ⟨0, _⟩ => show win0_8.index t 0 * 10 + 1 * (j 0).val = (j 0).val; rw [hi.1]; omega
  | ⟨1, _⟩ => show win0_8.index t 1 * 16 + 1 * (j 1).val = (j 1).val; rw [hi.2]; omega

/-- The spatial Cholesky factors' block is the whole array. -/
theorem blk_ls (t : Fin cfg0.N) : (iblk m c 9 t : Vec Ideal S10x207x207 .f32) = m ((c : Thread nD τ).loc main_arg6) := by
  have hi : win0_9.index t 0 = 0 ∧ win0_9.index t 1 = 0 ∧ win0_9.index t 2 = 0 := by rcases fin_N0 t with rfl | rfl <;> decide
  funext j
  unfold iblk
  rw [View.read_apply]
  show V m c main_arg6 _ = _
  rw [V_main_arg6]
  refine congrArg (m ((c : Thread nD τ).loc main_arg6)) (funext fun a => Fin.ext ?_)
  match a with
  | ⟨0, _⟩ => show win0_9.index t 0 * 10 + 1 * (j 0).val = (j 0).val; rw [hi.1]; omega
  | ⟨1, _⟩ => show win0_9.index t 1 * 207 + 1 * (j 1).val = (j 1).val; rw [hi.2.1]; omega
  | ⟨2, _⟩ => show win0_9.index t 2 * 207 + 1 * (j 2).val = (j 2).val; rw [hi.2.2]; omega

/-- The temporal Cholesky factors' block is the whole array. -/
theorem blk_lt (t : Fin cfg0.N) : (iblk m c 10 t : Vec Ideal S10x12x12 .f32) = m ((c : Thread nD τ).loc main_arg7) := by
  have hi : win0_10.index t 0 = 0 ∧ win0_10.index t 1 = 0 ∧ win0_10.index t 2 = 0 := by rcases fin_N0 t with rfl | rfl <;> decide
  funext j
  unfold iblk
  rw [View.read_apply]
  show V m c main_arg7 _ = _
  rw [V_main_arg7]
  refine congrArg (m ((c : Thread nD τ).loc main_arg7)) (funext fun a => Fin.ext ?_)
  match a with
  | ⟨0, _⟩ => show win0_10.index t 0 * 10 + 1 * (j 0).val = (j 0).val; rw [hi.1]; omega
  | ⟨1, _⟩ => show win0_10.index t 1 * 12 + 1 * (j 1).val = (j 1).val; rw [hi.2.1]; omega
  | ⟨2, _⟩ => show win0_10.index t 2 * 12 + 1 * (j 2).val = (j 2).val; rw [hi.2.2]; omega

/-- The block grid point `t` stores. -/
def stored (t : Fin cfg0.N) : Vec Ideal S1x1x128 .f32 :=
  out0_11 (F := Ideal) (iblk m c 0 t) (iblk m c 1 t) (iblk m c 2 t) (iblk m c 3 t) (iblk m c 4 t) (iblk m c 5 t) (iblk m c 6 t) (iblk m c 7 t)
    (iblk m c 8 t) (iblk m c 9 t) (iblk m c 10 t)

/-- The result array: row `t` is what point `t` stored. -/
def partsArr : Buf (Elt Ideal) ((c : Thread nD τ).loc main_v9) := fun i =>
  stored m c (⟨(i 0).val, by have h : cfg0.N = 2 := N_0; rw [h]; exact (i 0).isLt⟩ : Fin cfg0.N) (ix3 (0 : Fin 1) (0 : Fin 1) (⟨(i 2).val, (i 2).isLt⟩ : Fin 128))

/-- What each point writes back is its row of the result array. -/
theorem parts_flushed (t : Fin cfg0.N) (hf : (cfg0.win 11).flush t = true) :
    (dats m 0 c).flushed 11 t = ((cfg0.win 11).blk t).view.read (Elt Ideal) (partsArr m c) := by
  have hi : win0_11.index t 0 = t.val ∧ win0_11.index t 1 = 0 ∧ win0_11.index t 2 = 0 := by rcases fin_N0 t with rfl | rfl <;> decide
  show (cfg0.win 11).cut (grid0.coords t) ((dats m 0 c).after 11 t) = _
  rw [after0_11]
  funext j
  rw [View.read_apply]
  show stored m c t _ = stored m c _ _
  have h0 : (j 0).val = 0 := by have : (j 0).val < 1 := (j 0).isLt; omega
  have h1 : (j 1).val = 0 := by have : (j 1).val < 1 := (j 1).isLt; omega
  refine congrArg₂ (stored m c) (Fin.ext ?_) (funext fun a => Fin.ext ?_)
  · show t.val = win0_11.index t 0 * 1 + 1 * (j 0).val
    rw [hi.1]; omega
  · match a with
    | ⟨0, _⟩ => exact h0
    | ⟨1, _⟩ => exact h1
    | ⟨2, _⟩ => show (j 2).val = win0_11.index t 2 * 128 + 1 * (j 2).val; rw [hi.2.2]; omega

/-- The launch leaves the result array at the two stored blocks. -/
theorem parts_final : (dats m 0 c).arrAt 11 cfg0.N = partsArr m c :=
  (dats m 0 c).arrAt_eq_of_cover 11 (partsArr m c) (parts_flushed m c) fun i => by
    have hN : cfg0.N = 2 := N_0
    have h0 : (i 0).val < 2 := (i 0).isLt
    have h1 : (i 1).val < 1 := (i 1).isLt
    have h2 : (i 2).val < 128 := (i 2).isLt
    refine ⟨⟨(i 0).val, by omega⟩, flush0_11 _, ?_⟩
    generalize hp : (⟨(i 0).val, by omega⟩ : Fin cfg0.N) = p
    have hpv : p.val = (i 0).val := by rw [← hp]
    have hi : win0_11.index p 0 = p.val ∧ win0_11.index p 1 = 0 ∧ win0_11.index p 2 = 0 := by rcases fin_N0 p with h | h <;> rw [h] <;> decide
    show i ∈ ((View.whole main_v9).slice (win0_11.rect p)).set
    rw [View.set_slice_whole, Rect.mem_set_unit]
    intro a
    match a with
    | ⟨0, _⟩ => show win0_11.index p 0 * 1 ≤ (i 0).val ∧ (i 0).val < win0_11.index p 0 * 1 + 1; rw [hi.1]; omega
    | ⟨1, _⟩ => show win0_11.index p 1 * 1 ≤ (i 1).val ∧ (i 1).val < win0_11.index p 1 * 1 + 1; rw [hi.2.1]; omega
    | ⟨2, _⟩ => show win0_11.index p 2 * 128 ≤ (i 2).val ∧ (i 2).val < win0_11.index p 2 * 128 + 128; rw [hi.2.2]; omega

end Cert.Block
-- ==== Proof.Suffix.lean ====
/- The number the kernel's host part makes of the result array, and the launch's run read at it. -/
module

public import proofs.«01_k».proof.Proof.Windows

@[expose] public section

noncomputable section

namespace Cert.Block

open Cert.KernelIdeal Cert.KernelIdeal.Gen Idealize.ShloMosaic Idealize.ShloMosaic.ValueIdx Idealize.ShloMosaic.Pipeline Idealize.ShloMosaic.TcCoe
open Idealize.SL Idealize.SL.Sem

variable (m : (ℓ : Loc nD τ sig) → Buf (Elt Ideal) ℓ) (ρ : Dev nD → PrngReg) (c : Dev nD)

/-- Lane `l` of the result array, both rows added. -/
def lane0 (P : Vec Ideal S2x1x128 .f32) : FVec Ideal S_ .f32 :=
  addf (shapeCast S_ (extractStridedSlice S1x1x1 ![0, 0, 0] P slices_S2x1x128_S1x1x1_0_0_0) shapeCasts_S1x1x1_S_)
    (shapeCast S_ (extractStridedSlice S1x1x1 ![1, 0, 0] P slices_S2x1x128_S1x1x1_1_0_0) shapeCasts_S1x1x1_S_)
/-- Lane 1 of the result array, both rows added. -/
def lane1 (P : Vec Ideal S2x1x128 .f32) : FVec Ideal S_ .f32 :=
  addf (shapeCast S_ (extractStridedSlice S1x1x1 ![0, 0, 1] P slices_S2x1x128_S1x1x1_0_0_1) shapeCasts_S1x1x1_S_)
    (shapeCast S_ (extractStridedSlice S1x1x1 ![1, 0, 1] P slices_S2x1x128_S1x1x1_1_0_1) shapeCasts_S1x1x1_S_)
/-- Lane 2 of the result array, both rows added. -/
def lane2 (P : Vec Ideal S2x1x128 .f32) : FVec Ideal S_ .f32 :=
  addf (shapeCast S_ (extractStridedSlice S1x1x1 ![0, 0, 2] P slices_S2x1x128_S1x1x1_0_0_2) shapeCasts_S1x1x1_S_)
    (shapeCast S_ (extractStridedSlice S1x1x1 ![1, 0, 2] P slices_S2x1x128_S1x1x1_1_0_2) shapeCasts_S1x1x1_S_)

/-- The host part's combination of the lanes. -/
def combine (P : Vec Ideal S2x1x128 .f32) : FVec Ideal S_ .f32 :=
  addf (mulf (constant S_ .f32 0x3DCCCCCD#32) (Host.divf (lane0 P) (constant S_ .f32 0x42800000#32)))
    (mulf (constant S_ .f32 0x3F666666#32)
      (select (cmpf .ogt (lane2 P) (constant S_ .f32 0x00000000#32)) (Host.divf (lane1 P) (lane2 P)) (id (constant S_ .f32 0x00000000#32))))

/-- Reading the host operations after the launch at the result: they combine the lanes of the launch's array. -/
theorem suffix_reads (W : Valuation τ sig (Elt Ideal)) :
    (StableHlo.after (List.flatten [hostOps1, hostOps1_1, hostOps1_2]) W (Proc.devRef .tc main_v31) : FVec Ideal S_ .f32)
      = combine (W (Proc.devRef .tc main_v9)) := by
  simp only [hostOps1, hostOps1_1, hostOps1_2, List.flatten_cons, List.flatten_nil, List.append_nil, List.cons_append,
    List.nil_append, StableHlo.TRef.unary, StableHlo.TRef.ternary, StableHlo.TRef.toBuf, StableHlo.TRef.ofBuf, cast_eq]
  after_reads_simp
  rfl

/-- The result as the whole program leaves it. -/
theorem result_eq : (afterTail₀ cfgs (dats m) 0 (V0 m) [hostOps1, hostOps1_1, hostOps1_2] c main_v31 : FVec Ideal S_ .f32)
    = combine (partsArr m c) := by
  unfold afterTail₀
  refine (suffix_reads _).trans (congrArg combine ?_)
  exact (withArrays_arr spec0 (by decide) c (V0 m c) (fun w => (dats m 0 c).arrAt w cfg0.N) 11).trans (parts_final m c)

/-- One entry of a row of the result array. -/
def entry (P : Vec Ideal S2x1x128 .f32) (r : Fin 2) (l : Fin 128) : EReal := P (ix3 r (0 : Fin 1) l)

/-- Cutting one entry out and dropping its axes reads it. -/
theorem cut_apply (P : Vec Ideal S2x1x128 .f32) (off : Fin 3 → Nat) (h : S2x1x128.Slices off S1x1x1) (r : Fin 2) (l : Fin 128) (h0 : off 0 = r.val)
    (h1 : off 1 = 0) (h2 : off 2 = l.val) (j : S_.Idx) :
    shapeCast S_ (extractStridedSlice S1x1x1 off P h) shapeCasts_S1x1x1_S_ j = entry P r l := by
  rw [shapeCast_apply _ _ j (ix3 (0 : Fin 1) (0 : Fin 1) (0 : Fin 1)) (by
    have h1 : S_.numel = 1 := by decide
    have h' : (S_.rowMajor j).val < S_.numel := (S_.rowMajor j).isLt
    rw [Shape.rowMajor_val_three]
    show (0 * 1 + 0) * 1 + 0 = (S_.rowMajor j).val
    omega)]
  exact extractStridedSlice_apply off P h (ix3 (0 : Fin 1) (0 : Fin 1) (0 : Fin 1)) (ix3 r (0 : Fin 1) l) (fun a => by
    match a with
    | ⟨0, _⟩ => show r.val = off 0 + 0; omega
    | ⟨1, _⟩ => show 0 = off 1 + 0; omega
    | ⟨2, _⟩ => show l.val = off 2 + 0; omega)

/-- The combination at its only entry. -/
theorem combine_apply (P : Vec Ideal S2x1x128 .f32) (j : S_.Idx) :
    combine P j = Ideal.ofBits .f32 0x3DCCCCCD#32 * Ideal.div (entry P 0 0 + entry P 1 0) (Ideal.ofBits .f32 0x42800000#32)
      + Ideal.ofBits .f32 0x3F666666#32 * (if 0 < entry P 0 2 + entry P 1 2 then Ideal.div (entry P 0 1 + entry P 1 1) (entry P 0 2 + entry P 1 2) else 0) := by
  have e0 : lane0 P j = entry P 0 0 + entry P 1 0 :=
    congrArg₂ (· + ·) (cut_apply P _ _ 0 0 rfl rfl rfl j) (cut_apply P _ _ 1 0 rfl rfl rfl j)
  have e1 : lane1 P j = entry P 0 1 + entry P 1 1 :=
    congrArg₂ (· + ·) (cut_apply P _ _ 0 1 rfl rfl rfl j) (cut_apply P _ _ 1 1 rfl rfl rfl j)
  have e2 : lane2 P j = entry P 0 2 + entry P 1 2 :=
    congrArg₂ (· + ·) (cut_apply P _ _ 0 2 rfl rfl rfl j) (cut_apply P _ _ 1 2 rfl rfl rfl j)
  show Ideal.ofBits .f32 0x3DCCCCCD#32 * Ideal.div (lane0 P j) (Ideal.ofBits .f32 0x42800000#32)
    + Ideal.ofBits .f32 0x3F666666#32 * Scalar.select (BitVec.ofBool (decide (Ideal.ofBits .f32 0x00000000#32 < lane2 P j))) (Ideal.div (lane1 P j) (lane2 P j)) (Ideal.ofBits .f32 0x00000000#32) = _
  rw [select_ofBool, e0, e1, e2, Ideal.ofBits_zero_f32]

/-- The kernel's run: the result is the combination of the launch's array, the arguments end as they were. -/
theorem kernel_run : θ_run defs (onTc (τ := τ) (main (F := Ideal))) ⟨m, fun _ => 0, ρ⟩ (fun r => ∀ c : Dev nD,
      r.2.mem ((c.tc : Thread nD τ).loc main_v31) = combine (partsArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h.2 c).2 main_v31 (mem_restRefs_of main_v31 (by decide) (by decide))).trans (result_eq m c), h.1 c⟩)
    (θ_run_and (unchanged m ρ) (run_main m ρ))

end Cert.Block
-- ==== Proof.Spec.lean ====
/- The two numbers the programs end with, written over the arguments read by coordinates, and their equality. -/
module

public import proofs.«01_k».proof.Proof.Suffix

@[expose] public section

noncomputable section

namespace Cert.Spec

open Idealize.ShloMosaic Idealize.ShloMosaic.ValueIdx Cert.Quad Cert.Lse

/-- The arguments, read by coordinates. -/
structure Data where
  /-- the means -/
  mu : Fin 64 → Fin 207 → Fin 12 → EReal
  /-- the targets -/
  tg : Fin 64 → Fin 207 → Fin 12 → EReal
  /-- the unscaled targets -/
  un : Fin 64 → Fin 207 → Fin 12 → EReal
  /-- the mixture weights -/
  w : Fin 64 → Fin 10 → EReal
  /-- the noise scales -/
  sg : Fin 10 → EReal
  /-- the spatial Cholesky factors -/
  ls : Fin 10 → Fin 207 → Fin 207 → EReal
  /-- the temporal Cholesky factors -/
  lt : Fin 10 → Fin 12 → Fin 12 → EReal
  /-- the spatial eigenvalues -/
  ds : Fin 10 → Fin 207 → EReal
  /-- the spatial eigenvectors -/
  us : Fin 10 → Fin 207 → Fin 207 → EReal
  /-- the temporal eigenvalues -/
  dt : Fin 10 → Fin 12 → EReal
  /-- the temporal eigenvectors -/
  ut : Fin 10 → Fin 12 → Fin 12 → EReal

variable (d : Data)

/-- The residual. -/
def Data.res (b : Fin 64) (n : Fin 207) (t : Fin 12) : EReal := d.tg b n t - d.mu b n t
/-- The Kronecker eigenvalue plus the noise. -/
def Data.cap (c : Fin 10) (n : Fin 207) (t : Fin 12) : EReal := d.ds c n * d.dt c t + d.sg c * d.sg c
/-- The Mahalanobis form by coordinates in the eigenbasis. -/
def Data.quad (b : Fin 64) (c : Fin 10) : EReal :=
  ∑ t' : Fin 12, ∑ n' : Fin 207, (∑ n, (∑ t, d.res b n t * d.ut c t t') * d.us c n n') * (∑ n, (∑ t, d.res b n t * d.ut c t t') * d.us c n n')
    * Ideal.div 1 (d.cap c n' t')
/-- The Mahalanobis form by the full Kronecker matrix. -/
def Data.bigQuad (b : Fin 64) (c : Fin 10) : EReal :=
  ∑ i : Fin 2484, d.res b (pn i) (pt i) * ∑ k : Fin 2484,
    (∑ l : Fin 2484, Ideal.div (d.us c (pn k) (pn l) * d.ut c (pt k) (pt l)) (d.cap c (pn l) (pt l)) * (d.us c (pn i) (pn l) * d.ut c (pt i) (pt l)))
      * d.res b (pn k) (pt k)
/-- The log-likelihood of a component whose form is `q`. -/
def Data.ll (q : EReal) (b : Fin 64) (c : Fin 10) : EReal :=
  (((Ideal.ofBits .f32 0xC50EAA4B#32 - Ideal.ofBits .f32 0x3F000000#32 * q)
      + Ideal.ofBits .f32 0x434F0000#32 * ∑ i : Fin 12, Ideal.log (d.lt c i i))
      + Ideal.ofBits .f32 0x41400000#32 * ∑ i : Fin 207, Ideal.log (d.ls c i i))
    + Ideal.log (d.w b c)
/-- A sample's log-sum-exp with the largest entry taken out first. -/
def Data.lse (b : Fin 64) : EReal :=
  Ideal.log (∑ c : Fin 10, Ideal.exp (d.ll (d.quad b c) b c - (Finset.univ : Finset (Fin 10)).fold max ⊥ fun c => d.ll (d.quad b c) b c))
    + (Finset.univ : Finset (Fin 10)).fold max ⊥ fun c => d.ll (d.quad b c) b c
/-- A sample's log-sum-exp written plainly. -/
def Data.plainLse (b : Fin 64) : EReal := Ideal.log (∑ c : Fin 10, Ideal.exp (d.ll (d.bigQuad b c) b c))
/-- The mask: the unscaled target is not zero. -/
def Data.mask (b : Fin 64) (n : Fin 207) (t : Fin 12) : EReal := if d.un b n t ≠ 0 then 1 else 0
/-- The absolute error, target minus mean. -/
def Data.err (b : Fin 64) (n : Fin 207) (t : Fin 12) : EReal := max (d.tg b n t - d.mu b n t) (-(d.tg b n t - d.mu b n t))
/-- The absolute error, mean minus target. -/
def Data.err' (b : Fin 64) (n : Fin 207) (t : Fin 12) : EReal := max (d.mu b n t - d.tg b n t) (-(d.mu b n t - d.tg b n t))
/-- Row `b` of half `h` of the batch. -/
def row (h : Fin 2) (b : Fin 32) : Fin 64 := ⟨32 * h.val + b.val, by omega⟩
/-- The masked error of a half of the batch. -/
def Data.errHalf (h : Fin 2) : EReal := ∑ b : Fin 32, ∑ n : Fin 207, ∑ t : Fin 12, d.err (row h b) n t * d.mask (row h b) n t
/-- The mask's total over a half of the batch. -/
def Data.maskHalf (h : Fin 2) : EReal := ∑ b : Fin 32, ∑ n : Fin 207, ∑ t : Fin 12, d.mask (row h b) n t
/-- The mask's total. -/
def Data.maskAll : EReal := ∑ b : Fin 64, ∑ n : Fin 207, ∑ t : Fin 12, d.mask b n t

/-- The kernel's number. -/
def Data.kernelValue : EReal :=
  Ideal.ofBits .f32 0x3DCCCCCD#32
      * Ideal.div ((0 - ∑ b : Fin 32, d.lse (row 0 b)) + (0 - ∑ b : Fin 32, d.lse (row 1 b))) (Ideal.ofBits .f32 0x42800000#32)
    + Ideal.ofBits .f32 0x3F666666#32
      * (if 0 < d.maskHalf 0 + d.maskHalf 1 then Ideal.div (d.errHalf 0 + d.errHalf 1) (d.maskHalf 0 + d.maskHalf 1) else 0)

/-- The mask divided by its share of the entries, zero if it is empty. -/
def Data.share (b : Fin 64) (n : Fin 207) (t : Fin 12) : EReal :=
  if Ideal.div d.maskAll (Ideal.ofBits .f32 0x481B4000#32) = 0 then 0
  else Ideal.div (d.mask b n t) (Ideal.div d.maskAll (Ideal.ofBits .f32 0x481B4000#32))

/-- The reference's number. -/
def Data.refValue : EReal :=
  Ideal.ofBits .f32 0x3DCCCCCD#32 * Ideal.div (∑ b : Fin 64, -d.plainLse b) (Ideal.ofBits .f32 0x42800000#32)
    + Ideal.ofBits .f32 0x3F666666#32
      * Ideal.div (∑ b : Fin 64, ∑ n : Fin 207, ∑ t : Fin 12, d.err' b n t * d.share b n t) (Ideal.ofBits .f32 0x481B4000#32)

/-- The arguments the equation needs finite are finite, those it takes logarithms of are below infinity, and no Kronecker eigenvalue plus noise is zero. -/
structure Data.Regular : Prop where
  /-- finite means -/
  mu : ∀ b n t, max (d.mu b n t) (-d.mu b n t) ≠ ⊤
  /-- finite targets -/
  tg : ∀ b n t, max (d.tg b n t) (-d.tg b n t) ≠ ⊤
  /-- weights below infinity -/
  w : ∀ b c, d.w b c ≠ ⊤
  /-- spatial diagonals below infinity -/
  ls : ∀ c i, d.ls c i i ≠ ⊤
  /-- temporal diagonals below infinity -/
  lt : ∀ c i, d.lt c i i ≠ ⊤
  /-- finite spatial eigenvectors -/
  us : ∀ c i j, max (d.us c i j) (-d.us c i j) ≠ ⊤
  /-- finite temporal eigenvectors -/
  ut : ∀ c i j, max (d.ut c i j) (-d.ut c i j) ≠ ⊤
  /-- an invertible system -/
  cap : ∀ c n t, d.cap c n t ≠ 0

/-- The arguments read by coordinates. -/
def Data.of (x0 x1 x2 : (⟨3, ![64, 207, 12]⟩ : Shape).Idx → EReal) (x3 : (⟨3, ![64, 10, 1]⟩ : Shape).Idx → EReal) (x4 : (⟨1, ![10]⟩ : Shape).Idx → EReal)
    (x6 : (⟨3, ![10, 207, 207]⟩ : Shape).Idx → EReal) (x7 : (⟨3, ![10, 12, 12]⟩ : Shape).Idx → EReal) (x8 : (⟨2, ![10, 207]⟩ : Shape).Idx → EReal)
    (x9 : (⟨3, ![10, 207, 207]⟩ : Shape).Idx → EReal) (x10 : (⟨2, ![10, 12]⟩ : Shape).Idx → EReal) (x11 : (⟨3, ![10, 12, 12]⟩ : Shape).Idx → EReal) : Data where
  mu b n t := x0 (ix3 b n t)
  tg b n t := x1 (ix3 b n t)
  un b n t := x2 (ix3 b n t)
  w b c := x3 (ix3 b c (0 : Fin 1))
  sg c := x4 (ix1 c)
  ls c i j := x6 (ix3 c i j)
  lt c i j := x7 (ix3 c i j)
  ds c n := x8 (ix2 c n)
  us c i j := x9 (ix3 c i j)
  dt c t := x10 (ix2 c t)
  ut c i j := x11 (ix3 c i j)

variable {d}

/-- A sum over the two halves of the batch is the sum over the batch. -/
theorem sum_halves (g : Fin 64 → EReal) : ∑ b : Fin 32, g (row 0 b) + ∑ b : Fin 32, g (row 1 b) = ∑ b : Fin 64, g b := by
  rw [show (∑ b : Fin 64, g b) = ∑ b : Fin (32 + 32), g b from rfl, Fin.sum_univ_add]
  refine congrArg₂ (· + ·) (Finset.sum_congr rfl fun b _ => congrArg g (Fin.ext ?_)) (Finset.sum_congr rfl fun b _ => congrArg g (Fin.ext ?_))
  · show 32 * 0 + b.val = b.val; omega
  · show 32 * 1 + b.val = 32 + b.val; omega

/-- The residual of finite arrays is real. -/
theorem res_real (h : d.Regular) (b : Fin 64) (n : Fin 207) (t : Fin 12) : ((d.res b n t).toReal : EReal) = d.res b n t := by
  unfold Data.res
  rw [← lift (h.mu b n t), ← lift (h.tg b n t), ← EReal.coe_sub, EReal.toReal_coe]

/-- The two forms agree. -/
theorem quad_eq (h : d.Regular) (b : Fin 64) (c : Fin 10) : d.bigQuad b c = d.quad b c := by
  have e : ∀ (x y : EReal) {z : EReal}, z ≠ 0 → Ideal.div x z * y = Ideal.div y z * x := fun x y z hz => by
    unfold Ideal.div
    rw [if_neg hz, if_neg hz, mul_assoc, mul_comm, mul_comm _ y]
  refine Eq.trans (Finset.sum_congr rfl fun i _ => congrArg (d.res b (pn i) (pt i) * ·) (Finset.sum_congr rfl fun k _ =>
    congrArg (· * d.res b (pn k) (pt k)) (Finset.sum_congr rfl fun l _ => e _ _ (h.cap c (pn l) (pt l))))) ?_
  exact form_eq (d.res b) (d.us c) (d.ut c) (d.cap c) (res_real h b) (fun i j => lift (h.us c i j)) (fun i j => lift (h.ut c i j)) (h.cap c)

/-- The form is real. -/
theorem quad_real (h : d.Regular) (b : Fin 64) (c : Fin 10) : ∃ q : ℝ, d.quad b c = q :=
  form_coe (d.res b) (d.us c) (d.ut c) (d.cap c) (res_real h b) (fun i j => lift (h.us c i j)) (fun i j => lift (h.ut c i j)) (h.cap c)

/-- A positive multiple of what is not `⊤` is not `⊤`. -/
theorem mul_ne_top {a : ℝ} (ha : 0 < a) {x : EReal} (h : x ≠ ⊤) : (a : EReal) * x ≠ ⊤ := by
  induction x with
  | bot => rw [EReal.coe_mul_bot_of_pos ha]; exact bot_ne_top
  | top => exact absurd rfl h
  | coe x => rw [← EReal.coe_mul]; exact EReal.coe_ne_top _

/-- The float constant with these bits is one half. -/
theorem bits_half : Ideal.ofBits .f32 0x3F000000#32 = ((1 / 2 : ℝ) : EReal) := by
  simp [Ideal.ofBits, Ideal.ieee, -EReal.coe_mul]; norm_num
/-- The float constant with these bits is 207. -/
theorem bits_space : Ideal.ofBits .f32 0x434F0000#32 = ((207 : ℝ) : EReal) := by
  simp [Ideal.ofBits, Ideal.ieee, -EReal.coe_mul]; norm_num
/-- The float constant with these bits is 12. -/
theorem bits_time : Ideal.ofBits .f32 0x41400000#32 = ((12 : ℝ) : EReal) := by
  simp [Ideal.ofBits, Ideal.ieee, -EReal.coe_mul]; norm_num
/-- The float constant with these bits is 158976, the number of entries. -/
theorem bits_count : Ideal.ofBits .f32 0x481B4000#32 = ((158976 : ℝ) : EReal) := by
  simp [Ideal.ofBits, Ideal.ieee, -EReal.coe_mul]; norm_num
/-- The float constant with these bits is real. -/
theorem bits_const : ∃ k : ℝ, Ideal.ofBits .f32 0xC50EAA4B#32 = (k : EReal) := by
  refine ⟨-(9349707 / 4096), ?_⟩
  simp [Ideal.ofBits, Ideal.ieee, -EReal.coe_mul]; norm_num

/-- The log-likelihoods are not `⊤`. -/
theorem ll_ne_top (h : d.Regular) (b : Fin 64) (c : Fin 10) : d.ll (d.quad b c) b c ≠ ⊤ := by
  obtain ⟨q, hq⟩ := quad_real h b c
  obtain ⟨k, hk⟩ := bits_const
  unfold Data.ll
  rw [hq, hk, bits_half, bits_space, bits_time, ← EReal.coe_mul, ← EReal.coe_sub]
  refine EReal.add_ne_top (EReal.add_ne_top (EReal.add_ne_top (EReal.coe_ne_top _) ?_) ?_) (log_ne_top' (h.w b c))
  · exact mul_ne_top (by norm_num) (sum_ne_top _ _ fun i => log_ne_top' (h.lt c i))
  · exact mul_ne_top (by norm_num) (sum_ne_top _ _ fun i => log_ne_top' (h.ls c i))

/-- The two log-sum-exps agree. -/
theorem lse_plain (h : d.Regular) (b : Fin 64) : d.lse b = d.plainLse b := by
  unfold Data.lse Data.plainLse
  rw [lse_eq _ (ll_ne_top h b)]
  simp only [quad_eq h]

/-- The plain log-sum-exp is not `⊤`. -/
theorem plain_ne_top (h : d.Regular) (b : Fin 64) : d.plainLse b ≠ ⊤ := by
  rw [← lse_plain h]
  unfold Data.lse
  rw [lse_eq _ (ll_ne_top h b)]
  exact lse_ne_top _ (ll_ne_top h b)

/-- The likelihood halves add up to the reference's sum of negations. -/
theorem nll_eq (h : d.Regular) :
    (0 - ∑ b : Fin 32, d.lse (row 0 b)) + (0 - ∑ b : Fin 32, d.lse (row 1 b)) = ∑ b : Fin 64, -d.plainLse b := by
  simp only [lse_plain h, zero_sub]
  rw [← sum_neg _ _ (fun b => plain_ne_top h (row 0 b)), ← sum_neg _ _ (fun b => plain_ne_top h (row 1 b))]
  exact sum_halves fun b => -d.plainLse b

/-- The absolute errors agree, and are real. -/
theorem err_real (h : d.Regular) (b : Fin 64) (n : Fin 207) (t : Fin 12) :
    d.err b n t = (((d.err b n t).toReal : ℝ) : EReal) ∧ d.err' b n t = d.err b n t := by
  unfold Data.err Data.err'
  rw [← lift (h.mu b n t), ← lift (h.tg b n t), ← EReal.coe_sub, ← EReal.coe_sub, ← EReal.coe_neg, ← EReal.coe_neg, neg_sub, neg_sub]
  refine ⟨?_, max_comm _ _⟩
  rcases max_choice (((d.tg b n t).toReal - (d.mu b n t).toReal : ℝ) : EReal) (((d.mu b n t).toReal - (d.tg b n t).toReal : ℝ) : EReal) with e | e <;>
    rw [e, EReal.toReal_coe]

/-- A triple sum over the batch is one sum over triples. -/
theorem sum_triple (f : Fin 64 → Fin 207 → Fin 12 → EReal) :
    ∑ b, ∑ n, ∑ t, f b n t = ∑ i : Fin 64 × Fin 207 × Fin 12, f i.1 i.2.1 i.2.2 := by
  rw [Fintype.sum_prod_type]
  exact Finset.sum_congr rfl fun b _ => by rw [Fintype.sum_prod_type]

/-- The masked means agree. -/
theorem mean_eq (h : d.Regular) :
    (if 0 < d.maskHalf 0 + d.maskHalf 1 then Ideal.div (d.errHalf 0 + d.errHalf 1) (d.maskHalf 0 + d.maskHalf 1) else 0)
      = Ideal.div (∑ b : Fin 64, ∑ n : Fin 207, ∑ t : Fin 12, d.err' b n t * d.share b n t) (Ideal.ofBits .f32 0x481B4000#32) := by
  have e1 : d.maskHalf 0 + d.maskHalf 1 = ∑ i : Fin 64 × Fin 207 × Fin 12, (if d.un i.1 i.2.1 i.2.2 ≠ 0 then (1 : EReal) else 0) :=
    (sum_halves fun b => ∑ n : Fin 207, ∑ t : Fin 12, d.mask b n t).trans (sum_triple _)
  have e2 : d.maskAll = ∑ i : Fin 64 × Fin 207 × Fin 12, (if d.un i.1 i.2.1 i.2.2 ≠ 0 then (1 : EReal) else 0) := sum_triple _
  have e3 : d.errHalf 0 + d.errHalf 1
      = ∑ i : Fin 64 × Fin 207 × Fin 12, (((d.err i.1 i.2.1 i.2.2).toReal : ℝ) : EReal) * (if d.un i.1 i.2.1 i.2.2 ≠ 0 then (1 : EReal) else 0) := by
    refine (sum_halves fun b => ∑ n : Fin 207, ∑ t : Fin 12, d.err b n t * d.mask b n t).trans ((sum_triple _).trans ?_)
    exact Finset.sum_congr rfl fun i _ => by rw [← (err_real h i.1 i.2.1 i.2.2).1]; rfl
  rw [e1, e3, sum_triple, bits_count]
  refine (mse_eq (fun i : Fin 64 × Fin 207 × Fin 12 => (d.err i.1 i.2.1 i.2.2).toReal) (fun i => d.un i.1 i.2.1 i.2.2 ≠ 0) 158976 (by norm_num)).trans ?_
  refine congrArg₂ Ideal.div (Finset.sum_congr rfl fun i _ => ?_) rfl
  rw [(err_real h i.1 i.2.1 i.2.2).2, ← (err_real h i.1 i.2.1 i.2.2).1]
  unfold Data.share
  rw [e2, bits_count]
  rfl

/-- THE EQUATION: on regular arguments the kernel's number is the reference's. -/
theorem value_eq (h : d.Regular) : d.kernelValue = d.refValue := by
  unfold Data.kernelValue Data.refValue
  rw [nll_eq h, mean_eq h]

end Cert.Spec

end
-- ==== Proof.KernelValue.lean ====
/- The kernel's result, read off what the launch stores, is the kernel's number of the specification. -/
module

public import proofs.«01_k».proof.Proof.Spec

@[expose] public section

noncomputable section

namespace Cert.Block

open Cert.KernelIdeal Cert.KernelIdeal.Gen Idealize.ShloMosaic Idealize.ShloMosaic.ValueIdx Idealize.ShloMosaic.Pipeline Idealize.ShloMosaic.TcCoe
open Idealize.SL.Sem Cert.Spec

variable (m : (ℓ : Loc nD τ sig) → Buf (Elt Ideal) ℓ) (c : Dev nD)

/-- The kernel's arguments by coordinates. -/
def args : Data :=
  Data.of (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- A sum over sixteen that vanishes past the twelfth is the sum over twelve. -/
theorem sum_sixteen (f : Fin 16 → EReal) (h : ∀ t : Fin 16, ¬ t.val < 12 → f t = 0) : ∑ t : Fin 16, f t = ∑ t : Fin 12, f (⟨t.val, by omega⟩ : Fin 16) := by
  rw [show (∑ t : Fin 16, f t) = ∑ t : Fin (12 + 4), f t from rfl, Fin.sum_univ_add]
  rw [show (∑ t : Fin 4, f (Fin.natAdd 12 t)) = 0 from Finset.sum_eq_zero fun t _ => h _ (by show ¬ 12 + t.val < 12; omega), add_zero]
  rfl

/-- The half of the batch grid point `t` works on. -/
def halfOf (t : Fin cfg0.N) : Fin 2 := ⟨t.val, by have h : cfg0.N = 2 := N_0; have := t.isLt; omega⟩

/-- A block's arrays hold half `h` of the arguments `d`. -/
structure Holds (d : Data) (h : Fin 2) (x0 x1 x2 : Vec Ideal S32x207x12 .f32) (x3 : Vec Ideal S1x10x32 .f32) (x4 : Vec Ideal S1x10 .f32) (x5 : Vec Ideal S12x160 .f32)
    (x6 : Vec Ideal S10x207x207 .f32) (x7 : Vec Ideal S10x207 .f32) (x8 : Vec Ideal S10x16 .f32) (x9 : Vec Ideal S10x207x207 .f32)
    (x10 : Vec Ideal S10x12x12 .f32) : Prop where
  /-- the means -/
  mu : ∀ b n t, x0 (ix3 b n t) = d.mu (row h b) n t
  /-- the targets -/
  tg : ∀ b n t, x1 (ix3 b n t) = d.tg (row h b) n t
  /-- the unscaled targets -/
  un : ∀ b n t, x2 (ix3 b n t) = d.un (row h b) n t
  /-- the weights -/
  w : ∀ b k, x3 (ix3 (0 : Fin 1) k b) = d.w (row h b) k
  /-- the noise scales -/
  sg : ∀ k, x4 (ix2 (0 : Fin 1) k) = d.sg k
  /-- the stacked temporal eigenvectors -/
  ut : ∀ (t : Fin 12) (k : Fin 10) (t' : Fin 12), x5 (ix2 t (⟨16 * k.val + t'.val, by omega⟩ : Fin 160)) = d.ut k t t'
  /-- the spatial eigenvectors -/
  us : ∀ k i j, x6 (ix3 k i j) = d.us k i j
  /-- the spatial eigenvalues -/
  ds : ∀ k n, x7 (ix2 k n) = d.ds k n
  /-- the temporal eigenvalues -/
  dt : ∀ (k : Fin 10) (t : Fin 12), x8 (ix2 k (⟨t.val, by omega⟩ : Fin 16)) = d.dt k t
  /-- the spatial Cholesky factors -/
  ls : ∀ k i j, x9 (ix3 k i j) = d.ls k i j
  /-- the temporal Cholesky factors -/
  lt : ∀ k i j, x10 (ix3 k i j) = d.lt k i j

section
variable {d : Data} {h : Fin 2} {x0 x1 x2 : Vec Ideal S32x207x12 .f32} {x3 : Vec Ideal S1x10x32 .f32} {x4 : Vec Ideal S1x10 .f32}
  {x5 : Vec Ideal S12x160 .f32} {x6 : Vec Ideal S10x207x207 .f32} {x7 : Vec Ideal S10x207 .f32} {x8 : Vec Ideal S10x16 .f32}
  {x9 : Vec Ideal S10x207x207 .f32} {x10 : Vec Ideal S10x12x12 .f32} (H : Holds d h x0 x1 x2 x3 x4 x5 x6 x7 x8 x9 x10)
include H

/-- One component's form at one sample, as the block computes it. -/
theorem quads_value (k : Fin 10) (b : Fin 32) : quads (k0_pay2 (F := Ideal) x0 x1 x5) x4 x6 x7 x8 (ix2 k b) = d.quad (row h b) k := by
  rw [quads_apply, compRow_apply]
  rw [sum_sixteen _ (fun t' ht => Finset.sum_eq_zero fun n' _ => by rw [if_neg ht, mul_zero])]
  refine Finset.sum_congr rfl fun (t' : Fin 12) _ => Finset.sum_congr rfl fun (n' : Fin 207) _ => ?_
  have e : (∑ n : Fin 207, (∑ t0 : Fin 12, (x1 (ix3 b n t0) - x0 (ix3 b n t0)) * x5 (ix2 t0 (⟨16 * k.val + t'.val, by omega⟩ : Fin 160))) * x6 (ix3 k n n'))
      = ∑ n, (∑ t, d.res (row h b) n t * d.ut k t t') * d.us k n n' := by
    refine Finset.sum_congr rfl fun n _ => congrArg₂ (· * ·) (Finset.sum_congr rfl fun t0 _ => ?_) (H.us k n n')
    rw [H.mu, H.tg, H.ut]
    rfl
  have e' : x8 (ix2 k (⟨t'.val, by omega⟩ : Fin 16)) * x7 (ix2 k n') + x4 (ix2 (0 : Fin 1) k) * x4 (ix2 (0 : Fin 1) k) = d.cap k n' t' := by
    rw [H.dt, H.ds, H.sg, mul_comm]
    rfl
  refine congrArg₂ (· * ·) (congrArg₂ (· * ·) e e) ?_
  exact (if_pos t'.isLt).trans (congrArg (Ideal.div 1) e')

/-- One sample's log-sum-exp, as the block computes it. -/
theorem lse_value (b : Fin 32) : lseK (quads (k0_pay2 (F := Ideal) x0 x1 x5) x4 x6 x7 x8) x9 x10 x3 b = d.lse (row h b) := by
  have e : llK (quads (k0_pay2 (F := Ideal) x0 x1 x5) x4 x6 x7 x8) x9 x10 x3 b = fun k => d.ll (d.quad (row h b) k) (row h b) k := by
    funext k
    unfold llK
    simp only [quads_value H, H.ls, H.lt, H.w]
    rfl
  unfold lseK
  rw [e]
  rfl

/-- The masked error of the block's half. -/
theorem err_value : (∑ i : S32x207x12.Idx, max (x1 i - x0 i) (-(x1 i - x0 i)) * maskK x2 i) = d.errHalf h := by
  rw [sum_idx3]
  unfold maskK
  simp only [H.mu, H.tg, H.un]
  rfl

/-- The mask's total over the block's half. -/
theorem mask_value : (∑ i : S32x207x12.Idx, maskK x2 i) = d.maskHalf h := by
  rw [sum_idx3]
  unfold maskK
  simp only [H.un]
  rfl

/-- The lanes of what the block stores. -/
theorem out_value (l : Fin 128) :
    out0_11 (F := Ideal) x0 x1 x2 x3 x4 x5 x6 x7 x8 x9 x10 (ix3 (0 : Fin 1) (0 : Fin 1) l)
      = ((if l = 0 then 0 - ∑ b : Fin 32, d.lse (row h b) else 0) + (if l = 1 then d.errHalf h else 0)) + (if l = 2 then d.maskHalf h else 0) := by
  rw [out_apply, err_value H, mask_value H]
  simp only [lse_value H]

end

/-- Grid point `t`'s blocks hold its half of the kernel's arguments. -/
theorem holds (t : Fin cfg0.N) : Holds (args m c) (halfOf t) (iblk m c 0 t) (iblk m c 1 t) (iblk m c 2 t) (iblk m c 3 t) (iblk m c 4 t) (iblk m c 5 t)
    (iblk m c 6 t) (iblk m c 7 t) (iblk m c 8 t) (iblk m c 9 t) (iblk m c 10 t) where
  mu b n k := blk_mu m c t b n k
  tg b n k := blk_tg m c t b n k
  un b n k := blk_un m c t b n k
  w b k := blk_w m c t k b
  sg k := (congrFun (blk_sig m c t) _).trans (sig_apply m c k)
  ut t0 k t' := (congrFun (blk_ut m c t) _).trans (utcat_apply m c t0 k t')
  us k i j := congrFun (blk_us m c t) (ix3 k i j)
  ds k n := congrFun (blk_ds m c t) (ix2 k n)
  dt k t' := (congrFun (blk_dt m c t) _).trans (dtp_apply m c k t')
  ls k i j := congrFun (blk_ls m c t) (ix3 k i j)
  lt k i j := congrFun (blk_lt m c t) (ix3 k i j)

/-- Lane `l` of what grid point `t` stores. -/
theorem stored_apply (t : Fin cfg0.N) (l : Fin 128) :
    stored m c t (ix3 (0 : Fin 1) (0 : Fin 1) l)
      = ((if l = 0 then 0 - ∑ b : Fin 32, (args m c).lse (row (halfOf t) b) else 0) + (if l = 1 then (args m c).errHalf (halfOf t) else 0))
        + (if l = 2 then (args m c).maskHalf (halfOf t) else 0) := out_value (holds m c t) l

/-- Row `r` of the result array is what grid point `r` stored. -/
theorem entry_row (r : Fin 2) (l : Fin 128) :
    entry (partsArr m c) r l = stored m c (⟨r.val, by have h : cfg0.N = 2 := N_0; rw [h]; exact r.isLt⟩ : Fin cfg0.N) (ix3 (0 : Fin 1) (0 : Fin 1) l) := by
  unfold entry partsArr
  rfl

/-- An entry of the result array is a lane of what its grid point stored. -/
theorem entry_parts (t : Fin cfg0.N) (r : Fin 2) (hr : r.val = t.val) (l : Fin 128) :
    entry (partsArr m c) r l = stored m c t (ix3 (0 : Fin 1) (0 : Fin 1) l) := by
  rw [entry_row]
  have e : (⟨r.val, by have h : cfg0.N = 2 := N_0; rw [h]; exact r.isLt⟩ : Fin cfg0.N) = t := Fin.ext hr
  rw [e]

/-- Lane 0 of a row: the half's likelihood. -/
theorem entry_zero (t : Fin cfg0.N) (r : Fin 2) (hr : r.val = t.val) : entry (partsArr m c) r 0 = 0 - ∑ b : Fin 32, (args m c).lse (row r b) := by
  rw [entry_parts m c t r hr, stored_apply, if_pos rfl, if_neg (by decide), if_neg (by decide), add_zero, add_zero, show halfOf t = r from Fin.ext hr.symm]

/-- Lane 1 of a row: the half's masked error. -/
theorem entry_one (t : Fin cfg0.N) (r : Fin 2) (hr : r.val = t.val) : entry (partsArr m c) r 1 = (args m c).errHalf r := by
  rw [entry_parts m c t r hr, stored_apply, if_neg (by decide), if_pos rfl, if_neg (by decide), zero_add, add_zero, show halfOf t = r from Fin.ext hr.symm]

/-- Lane 2 of a row: the half's mask. -/
theorem entry_two (t : Fin cfg0.N) (r : Fin 2) (hr : r.val = t.val) : entry (partsArr m c) r 2 = (args m c).maskHalf r := by
  rw [entry_parts m c t r hr, stored_apply, if_neg (by decide), if_neg (by decide), if_pos rfl, zero_add, zero_add, show halfOf t = r from Fin.ext hr.symm]

/-- The kernel's result is the kernel's number. -/
theorem combine_value (j : S_.Idx) : combine (partsArr m c) j = (args m c).kernelValue := by
  rw [combine_apply, entry_zero m c t0_0 0 rfl, entry_zero m c t0_1 1 rfl, entry_one m c t0_0 0 rfl, entry_one m c t0_1 1 rfl,
    entry_two m c t0_0 0 rfl, entry_two m c t0_1 1 rfl]
  rfl

end Cert.Block

end
-- ==== Proof.RefValue.lean ====
/- The reference's result is the reference's number of the specification. -/
module

public import proofs.«01_k».proof.Proof.KernelValue
public import proofs.«01_k».proof.Proof.Gen.ReferenceIdeal.Read

@[expose] public section

noncomputable section

namespace Cert.RefValue

open Cert.ReferenceIdeal Cert.ReferenceIdeal.Gen Cert.ReferenceIdeal.Read Idealize.ShloMosaic Idealize.ShloMosaic.ValueIdx Idealize.ShloMosaic.TcCoe
open Cert.Spec Cert.Quad Cert.Block

/-- Reading an array of three axes at an index with the given coordinates. -/
theorem at3 {α : Type} {n0 n1 n2 : ℕ} (x : (⟨3, ![n0, n1, n2]⟩ : Shape).Idx → α) (i : (⟨3, ![n0, n1, n2]⟩ : Shape).Idx) (a : Fin n0) (b : Fin n1) (c : Fin n2)
    (ha : (i 0).val = a.val) (hb : (i 1).val = b.val) (hc : (i 2).val = c.val) : x i = x (ix3 a b c) := by
  rw [eq_ix3 i]
  exact congrArg x (by rw [show i 0 = a from Fin.ext ha, show i 1 = b from Fin.ext hb, show i 2 = c from Fin.ext hc]; rfl)

/-- Reading an array of two axes at an index with the given coordinates. -/
theorem at2 {α : Type} {n0 n1 : ℕ} (x : (⟨2, ![n0, n1]⟩ : Shape).Idx → α) (i : (⟨2, ![n0, n1]⟩ : Shape).Idx) (a : Fin n0) (b : Fin n1)
    (ha : (i 0).val = a.val) (hb : (i 1).val = b.val) : x i = x (ix2 a b) := by
  rw [eq_ix2 i]
  exact congrArg x (by rw [show i 0 = a from Fin.ext ha, show i 1 = b from Fin.ext hb]; rfl)

/-- Reading an array of one axis at an index with the given coordinate. -/
theorem at1 {α : Type} {n0 : ℕ} (x : (⟨1, ![n0]⟩ : Shape).Idx → α) (i : (⟨1, ![n0]⟩ : Shape).Idx) (a : Fin n0) (ha : (i 0).val = a.val) : x i = x (ix1 a) := by
  rw [eq_ix1 i]
  exact congrArg x (by rw [show i 0 = a from Fin.ext ha]; rfl)

variable (x0 x1 x2 : (⟨S64x207x12, .f32⟩ : BufTy).Contents (Elt Ideal)) (x3 : (⟨S64x10x1, .f32⟩ : BufTy).Contents (Elt Ideal))
  (x4 : (⟨S10, .f32⟩ : BufTy).Contents (Elt Ideal)) (x6 : (⟨S10x207x207, .f32⟩ : BufTy).Contents (Elt Ideal)) (x7 : (⟨S10x12x12, .f32⟩ : BufTy).Contents (Elt Ideal))
  (x8 : (⟨S10x207, .f32⟩ : BufTy).Contents (Elt Ideal)) (x9 : (⟨S10x207x207, .f32⟩ : BufTy).Contents (Elt Ideal)) (x10 : (⟨S10x12, .f32⟩ : BufTy).Contents (Elt Ideal))
  (x11 : (⟨S10x12x12, .f32⟩ : BufTy).Contents (Elt Ideal))

/-- The eigenvector matrix of a Kronecker product. -/
theorem kron_apply (c : Fin 10) (i j : Fin 2484) :
    (val_main_v4 (F := Ideal) x9 x11 (ix3 c i j) : EReal) = (x9 (ix3 c (pn i) (pn j)) : EReal) * (x11 (ix3 c (pt i) (pt j)) : EReal) := by
  rw [val_main_v4_apply, val_main_call0_v4_apply, val_main_call0_v2_apply, val_main_call0_v0_apply, val_main_call0_v3_apply, val_main_call0_v1_apply]
  have hc := c.isLt
  have hi := i.isLt
  have hj := j.isLt
  exact congrArg₂ (fun a b : EReal => a * b)
    (at3 x9 _ c (pn i) (pn j) (by show ((c.val * 2484 + i.val) * 2484 + j.val) / 6170256 = c.val; omega)
      (by show ((c.val * 2484 + i.val) * 2484 + j.val) / 29808 % 207 = i.val / 12; omega)
      (by show ((c.val * 2484 + i.val) * 2484 + j.val) / 12 % 207 = j.val / 12; omega))
    (at3 x11 _ c (pt i) (pt j) (by show ((c.val * 2484 + i.val) * 2484 + j.val) / 6170256 = c.val; omega)
      (by show ((c.val * 2484 + i.val) * 2484 + j.val) / 2484 % 12 = i.val % 12; omega)
      (by show ((c.val * 2484 + i.val) * 2484 + j.val) % 12 = j.val % 12; omega))

/-- The eigenvalues plus the noise. -/
theorem cap_apply (c : Fin 10) (l : Fin 2484) :
    (val_main_v9 (F := Ideal) x4 x8 x10 (ix2 c l) : EReal)
      = (x8 (ix2 c (pn l)) : EReal) * (x10 (ix2 c (pt l)) : EReal) + (x4 (ix1 c) : EReal) * (x4 (ix1 c) : EReal) := by
  rw [val_main_v9_apply, val_main_v5_apply, val_main_call1_v4_apply, val_main_call1_v2_apply, val_main_call1_v0_apply, val_main_call1_v3_apply,
    val_main_call1_v1_apply, val_main_v8_apply, val_main_v7_apply, val_main_v6_apply]
  have hc := c.isLt
  have hl := l.isLt
  exact congrArg₂ (fun a b : EReal => a + b)
    (congrArg₂ (fun a b : EReal => a * b)
      (at2 x8 _ c (pn l) (by show (c.val * 2484 + l.val) / 2484 = c.val; omega) (by show (c.val * 2484 + l.val) / 12 % 207 = l.val / 12; omega))
      (at2 x10 _ c (pt l) (by show (c.val * 2484 + l.val) / 2484 = c.val; omega) (by show (c.val * 2484 + l.val) % 12 = l.val % 12; omega)))
    (congrArg₂ (fun a b : EReal => a * b) (at1 x4 _ c rfl) (at1 x4 _ c rfl))

/-- The flattened residual. -/
theorem res_apply (b : Fin 64) (k : Fin 2484) :
    (val_main_v3 (F := Ideal) x0 x1 (ix2 b k) : EReal) = (x1 (ix3 b (pn k) (pt k)) : EReal) - (x0 (ix3 b (pn k) (pt k)) : EReal) := by
  rw [val_main_v3_apply, val_main_v2_apply]
  have hb := b.isLt
  have hk := k.isLt
  have e0 : (b.val * 2484 + k.val) / 2484 = b.val := by omega
  have e1 : (b.val * 2484 + k.val) / 12 % 207 = k.val / 12 := by omega
  have e2 : (b.val * 2484 + k.val) % 12 = k.val % 12 := by omega
  exact congrArg₂ (fun a b : EReal => a - b) (at3 x1 _ b (pn k) (pt k) e0 e1 e2) (at3 x0 _ b (pn k) (pt k) e0 e1 e2)

/-- The inverse of a component's covariance, entry by entry. -/
theorem inv_apply (c : Fin 10) (i k : Fin 2484) :
    (val_main_v14 (F := Ideal) x4 x8 x9 x10 x11 (ix3 c i k) : EReal)
      = ∑ l : Fin 2484, Ideal.div (val_main_v4 (F := Ideal) x9 x11 (ix3 c i l)) (val_main_v9 (F := Ideal) x4 x8 x10 (ix2 c l))
          * (val_main_v4 (F := Ideal) x9 x11 (ix3 c k l) : EReal) := by
  rw [val_main_v14_apply]
  refine Finset.sum_congr rfl fun l _ => ?_
  rw [val_main_v12_apply, val_main_v11_apply, val_main_v10_apply, val_main_v13_apply]
  exact congrArg₂ (fun a b : EReal => a * b)
    (congrArg₂ Ideal.div (at3 (val_main_v4 (F := Ideal) x9 x11) _ c i l rfl rfl rfl) (at2 (val_main_v9 (F := Ideal) x4 x8 x10) _ c l rfl rfl))
    (at3 (val_main_v4 (F := Ideal) x9 x11) _ c k l rfl rfl rfl)

/-- The Mahalanobis form. -/
theorem quad_apply (b : Fin 64) (c : Fin 10) :
    (val_main_v36 (F := Ideal) x0 x1 x4 x8 x9 x10 x11 (ix2 b c) : EReal) = (Data.of x0 x1 x2 x3 x4 x6 x7 x8 x9 x10 x11).bigQuad b c := by
  rw [val_main_v36_apply]
  unfold Data.bigQuad
  refine Finset.sum_congr rfl fun i _ => congrArg₂ (fun a b : EReal => a * b)
    ((at2 (val_main_v3 (F := Ideal) x0 x1) _ b i rfl rfl).trans (res_apply x0 x1 b i)) ?_
  rw [val_main_v35_apply]
  refine Finset.sum_congr rfl fun k _ => congrArg₂ (fun a b : EReal => a * b)
    ((at3 (val_main_v14 (F := Ideal) x4 x8 x9 x10 x11) _ c k i rfl rfl rfl).trans ?_)
    ((at2 (val_main_v3 (F := Ideal) x0 x1) _ b k rfl rfl).trans (res_apply x0 x1 b k))
  rw [inv_apply]
  refine Finset.sum_congr rfl fun l _ => ?_
  rw [kron_apply, kron_apply, cap_apply]
  rfl

/-- The float constant with no bit set is zero. -/
theorem bits_zero : (FloatOps.ofBits (F := Ideal) .f32 0x00000000#32 : EReal) = 0 := Ideal.ofBits_zero_f32

/-- Summing a row with everything off the diagonal put to zero leaves the diagonal. -/
theorem pick_diag {n : ℕ} (hn : n ≤ 1024) (f : Fin n → EReal) (k : Fin n) :
    (∑ k' : Fin n, Scalar.select (IntOp.cmpi .eq (BitVec.ofNat 32 k'.val) (BitVec.ofNat 32 k.val)) (f k') 0) = f k := by
  simp only [cmpi_eq_coord hn, select_ofBool]
  rw [Finset.sum_ite_eq' Finset.univ k f, if_pos (Finset.mem_univ k)]

/-- A temporal factor's diagonal. -/
theorem diagT_apply (c : Fin 10) (k : Fin 12) : (val_main_v32 (F := Ideal) x7 (ix2 c k) : EReal) = (x7 (ix3 c k k) : EReal) := by
  rw [val_main_v32_apply, val_main_cst_3_apply]
  refine (congrArg₂ (fun a b : EReal => a + b) bits_zero (Finset.sum_congr rfl fun k' _ => ?_)).trans
    ((zero_add _).trans (pick_diag (by norm_num) (fun k' => x7 (ix3 c k' k)) k))
  rw [val_main_v31_apply, val_main_v29_apply, val_main_v27_apply, val_main_v25_apply, val_main_v26_apply, val_main_v30_apply, val_main_v28_apply,
    val_main_cst_2_apply]
  exact congrArg₂ (Scalar.select (α := EReal) _) (at3 x7 _ c k' k rfl rfl rfl) bits_zero

/-- A spatial factor's diagonal. -/
theorem diagS_apply (c : Fin 10) (k : Fin 207) : (val_main_v22 (F := Ideal) x6 (ix2 c k) : EReal) = (x6 (ix3 c k k) : EReal) := by
  rw [val_main_v22_apply, val_main_cst_0_apply]
  refine (congrArg₂ (fun a b : EReal => a + b) bits_zero (Finset.sum_congr rfl fun k' _ => ?_)).trans
    ((zero_add _).trans (pick_diag (by norm_num) (fun k' => x6 (ix3 c k' k)) k))
  rw [val_main_v21_apply, val_main_v19_apply, val_main_v17_apply, val_main_v15_apply, val_main_v16_apply, val_main_v20_apply, val_main_v18_apply,
    val_main_cst_apply]
  exact congrArg₂ (Scalar.select (α := EReal) _) (at3 x6 _ c k' k rfl rfl rfl) bits_zero

/-- A temporal factor's log-determinant. -/
theorem logdetT_apply (c : Fin 10) : (val_main_v34 (F := Ideal) x7 (ix1 c) : EReal) = ∑ i : Fin 12, Ideal.log (x7 (ix3 c i i)) := by
  rw [val_main_v34_apply, val_main_cst_4_apply]
  refine (congrArg₂ (fun a b : EReal => a + b) bits_zero (Finset.sum_congr rfl fun k _ => ?_)).trans (zero_add _)
  rw [val_main_v33_apply]
  exact congrArg Ideal.log ((at2 (val_main_v32 (F := Ideal) x7) _ c k rfl rfl).trans (diagT_apply x7 c k))

/-- A spatial factor's log-determinant. -/
theorem logdetS_apply (c : Fin 10) : (val_main_v24 (F := Ideal) x6 (ix1 c) : EReal) = ∑ i : Fin 207, Ideal.log (x6 (ix3 c i i)) := by
  rw [val_main_v24_apply, val_main_cst_1_apply]
  refine (congrArg₂ (fun a b : EReal => a + b) bits_zero (Finset.sum_congr rfl fun k _ => ?_)).trans (zero_add _)
  rw [val_main_v23_apply]
  exact congrArg Ideal.log ((at2 (val_main_v22 (F := Ideal) x6) _ c k rfl rfl).trans (diagS_apply x6 c k))

/-- A component's weight, in logarithms. -/
theorem logw_apply (b : Fin 64) (c : Fin 10) : (val_main_v1 (F := Ideal) x3 (ix2 b c) : EReal) = Ideal.log (x3 (ix3 b c (0 : Fin 1))) := by
  rw [val_main_v1_apply, val_main_v0_apply]
  have hb := b.isLt
  have hc := c.isLt
  exact congrArg Ideal.log (at3 x3 _ b c (0 : Fin 1) (by show (b.val * 10 + c.val) / 10 = b.val; omega) (by show (b.val * 10 + c.val) / 1 % 10 = c.val; omega) rfl)

/-- A component's log-likelihood. -/
theorem ll_apply (b : Fin 64) (c : Fin 10) :
    (val_main_v51 (F := Ideal) x0 x1 x3 x4 x6 x7 x8 x9 x10 x11 (ix2 b c) : EReal)
      = (Data.of x0 x1 x2 x3 x4 x6 x7 x8 x9 x10 x11).ll ((Data.of x0 x1 x2 x3 x4 x6 x7 x8 x9 x10 x11).bigQuad b c) b c := by
  rw [val_main_v51_apply, val_main_v50_apply, val_main_v45_apply, val_main_v40_apply, val_main_v39_apply, val_main_cst_6_apply, val_main_v38_apply,
    val_main_v37_apply, val_main_cst_5_apply, val_main_v44_apply, val_main_v43_apply, val_main_v42_apply, val_main_cst_7_apply, val_main_v41_apply,
    val_main_v49_apply, val_main_v48_apply, val_main_v47_apply, val_main_cst_8_apply, val_main_v46_apply]
  unfold Data.ll
  refine congrArg₂ (fun a b : EReal => a + b) (congrArg₂ (fun a b : EReal => a + b) (congrArg₂ (fun a b : EReal => a + b)
    (congrArg (fun a : EReal => Ideal.ofBits .f32 0xC50EAA4B#32 - Ideal.ofBits .f32 0x3F000000#32 * a) (quad_apply x0 x1 x2 x3 x4 x6 x7 x8 x9 x10 x11 b c))
    (congrArg (fun a : EReal => Ideal.ofBits .f32 0x434F0000#32 * a) ((at1 (val_main_v34 (F := Ideal) x7) _ c rfl).trans (logdetT_apply x7 c))))
    (congrArg (fun a : EReal => Ideal.ofBits .f32 0x41400000#32 * a) ((at1 (val_main_v24 (F := Ideal) x6) _ c rfl).trans (logdetS_apply x6 c))))
    (logw_apply x3 b c)

/-- A sample's negated log-sum-exp. -/
theorem nll_apply (b : Fin 64) :
    (val_main_v55 (F := Ideal) x0 x1 x3 x4 x6 x7 x8 x9 x10 x11 (ix1 b) : EReal) = -(Data.of x0 x1 x2 x3 x4 x6 x7 x8 x9 x10 x11).plainLse b := by
  rw [val_main_v55_apply, val_main_v54_apply, val_main_v53_apply, val_main_cst_9_apply]
  unfold Data.plainLse
  refine congrArg (fun a : EReal => -Ideal.log a) ((congrArg₂ (fun a b : EReal => a + b) bits_zero (Finset.sum_congr rfl fun c _ => ?_)).trans (zero_add _))
  rw [val_main_v52_apply]
  exact congrArg Ideal.exp ((at2 (val_main_v51 (F := Ideal) x0 x1 x3 x4 x6 x7 x8 x9 x10 x11) _ b c rfl rfl).trans
    (ll_apply x0 x1 x2 x3 x4 x6 x7 x8 x9 x10 x11 b c))

/-- A sum over the indices of one axis is the sum over the axis. -/
theorem sum_idx1 {n : ℕ} (f : (⟨1, ![n]⟩ : Shape).Idx → EReal) : ∑ i, f i = ∑ a : Fin n, f (ix1 a) := by
  let e : Fin n ≃ (⟨1, ![n]⟩ : Shape).Idx :=
    { toFun := fun a => ix1 a
      invFun := fun i => i 0
      left_inv := fun a => rfl
      right_inv := fun i => (eq_ix1 i).symm }
  exact (e.sum_comp f).symm

/-- The likelihood's total. -/
theorem nll_total (i : S_.Idx) :
    (val_main_v56 (F := Ideal) x0 x1 x3 x4 x6 x7 x8 x9 x10 x11 i : EReal) = ∑ b : Fin 64, -(Data.of x0 x1 x2 x3 x4 x6 x7 x8 x9 x10 x11).plainLse b := by
  rw [val_main_v56_apply, val_main_cst_10_apply]
  refine (congrArg₂ (fun a b : EReal => a + b) bits_zero ?_).trans (zero_add _)
  exact (sum_idx1 _).trans (Finset.sum_congr rfl fun b _ => nll_apply x0 x1 x2 x3 x4 x6 x7 x8 x9 x10 x11 b)

/-- The mask. -/
theorem mask_apply (b : Fin 64) (n : Fin 207) (t : Fin 12) :
    (val_main_v60 (F := Ideal) x2 (ix3 b n t) : EReal) = (Data.of x0 x1 x2 x3 x4 x6 x7 x8 x9 x10 x11).mask b n t := by
  rw [val_main_v60_apply, val_main_v59_apply, val_main_v58_apply, val_main_cst_12_apply]
  show (((BitVec.ofBool (decide ((x2 (ix3 b n t) : EReal) ≠ FloatOps.ofBits (F := Ideal) .f32 0x00000000#32))).toNat : ℝ) : EReal)
    = if (x2 (ix3 b n t) : EReal) ≠ 0 then 1 else 0
  rw [bits_zero]
  by_cases h : (x2 (ix3 b n t) : EReal) ≠ 0
  · rw [if_pos h, decide_eq_true h]; simp
  · rw [if_neg h, decide_eq_false h]; simp

/-- The mask's mean. -/
theorem mean_apply (i : S_.Idx) :
    (val_main_v62 (F := Ideal) x2 i : EReal) = Ideal.div (Data.of x0 x1 x2 x3 x4 x6 x7 x8 x9 x10 x11).maskAll (Ideal.ofBits .f32 0x481B4000#32) := by
  rw [val_main_v62_apply, val_main_v61_apply, val_main_cst_13_apply, val_main_cst_14_apply]
  refine congrArg (fun a : EReal => Ideal.div a (Ideal.ofBits .f32 0x481B4000#32)) ((congrArg₂ (fun a b : EReal => a + b) bits_zero ?_).trans (zero_add _))
  rw [sum_idx3]
  exact Finset.sum_congr rfl fun b _ => Finset.sum_congr rfl fun n _ => Finset.sum_congr rfl fun t _ => mask_apply x0 x1 x2 x3 x4 x6 x7 x8 x9 x10 x11 b n t

/-- The mask divided by its mean, zero if that is zero. -/
theorem share_apply (b : Fin 64) (n : Fin 207) (t : Fin 12) :
    (val_main_v66 (F := Ideal) x2 (ix3 b n t) : EReal) = (Data.of x0 x1 x2 x3 x4 x6 x7 x8 x9 x10 x11).share b n t := by
  unfold val_main_v66 Data.share
  show Scalar.select (broadcastInDim S64x207x12 ![] bcast_S_S64x207x12 (val_main_v63 (F := Ideal) x2) (ix3 b n t))
    (val_main_call2_v1 (F := Ideal) (ix3 b n t)) (val_main_v65 (F := Ideal) x2 (ix3 b n t)) = _
  rw [broadcastInDim_apply _ bcast_S_S64x207x12 (val_main_v63 (F := Ideal) x2) (ix3 b n t) (idx_main_v64 (ix3 b n t)) (fun a => a.elim0),
    val_main_v63_apply, val_main_cst_15_apply, val_main_call2_v1_apply, val_main_call2_v0_apply, val_main_cst_16_apply, val_main_v65_apply,
    val_main_v64_apply, mean_apply x0 x1 x2 x3 x4 x6 x7 x8 x9 x10 x11, mask_apply x0 x1 x2 x3 x4 x6 x7 x8 x9 x10 x11]
  show Scalar.select (BitVec.ofBool (decide (Ideal.div (Data.of x0 x1 x2 x3 x4 x6 x7 x8 x9 x10 x11).maskAll (Ideal.ofBits .f32 0x481B4000#32)
      = FloatOps.ofBits (F := Ideal) .f32 0x00000000#32))) (FloatOps.ofBits (F := Ideal) .f32 0x00000000#32 : EReal) _ = _
  rw [select_ofBool, bits_zero]
  rfl

/-- Nothing differs from itself. -/
theorem une_self (x : EReal) : FloatOps.cmpf (F := Ideal) (φ := .f32) .une x x = 0#1 := by
  show BitVec.ofBool (decide (x ≠ x)) = 0#1
  rw [decide_eq_false (fun h => h rfl)]
  rfl

/-- The masked absolute error. -/
theorem err_apply (b : Fin 64) (n : Fin 207) (t : Fin 12) :
    (val_main_v71 (F := Ideal) x0 x1 x2 (ix3 b n t) : EReal)
      = (Data.of x0 x1 x2 x3 x4 x6 x7 x8 x9 x10 x11).err' b n t * (Data.of x0 x1 x2 x3 x4 x6 x7 x8 x9 x10 x11).share b n t := by
  rw [val_main_v71_apply, val_main_v70_apply]
  refine (congrArg (fun p : BitVec 1 => Scalar.select (α := EReal) p (val_main_call3_v1 (F := Ideal) (ix3 b n t)) (val_main_v69 (F := Ideal) x0 x1 x2 (ix3 b n t)))
    (une_self (val_main_v69 (F := Ideal) x0 x1 x2 (ix3 b n t)))).trans ?_
  show (val_main_v69 (F := Ideal) x0 x1 x2 (ix3 b n t) : EReal) = _
  rw [val_main_v69_apply, val_main_v68_apply, val_main_v67_apply]
  exact congrArg (fun a : EReal => (Data.of x0 x1 x2 x3 x4 x6 x7 x8 x9 x10 x11).err' b n t * a) (share_apply x0 x1 x2 x3 x4 x6 x7 x8 x9 x10 x11 b n t)

/-- The error's total. -/
theorem err_total (i : S_.Idx) :
    (val_main_v72 (F := Ideal) x0 x1 x2 i : EReal) = ∑ b : Fin 64, ∑ n : Fin 207, ∑ t : Fin 12,
      (Data.of x0 x1 x2 x3 x4 x6 x7 x8 x9 x10 x11).err' b n t * (Data.of x0 x1 x2 x3 x4 x6 x7 x8 x9 x10 x11).share b n t := by
  rw [val_main_v72_apply, val_main_cst_18_apply]
  refine (congrArg₂ (fun a b : EReal => a + b) bits_zero ?_).trans (zero_add _)
  rw [sum_idx3]
  exact Finset.sum_congr rfl fun b _ => Finset.sum_congr rfl fun n _ => Finset.sum_congr rfl fun t _ => err_apply x0 x1 x2 x3 x4 x6 x7 x8 x9 x10 x11 b n t

/-- The reference's result is the reference's number. -/
theorem ref_value (i : S_.Idx) :
    (val_main_v76 (F := Ideal) x0 x1 x2 x3 x4 x6 x7 x8 x9 x10 x11 i : EReal) = (Data.of x0 x1 x2 x3 x4 x6 x7 x8 x9 x10 x11).refValue := by
  rw [val_main_v76_apply, val_main_v74_apply, val_main_cst_20_apply, val_main_v57_apply, val_main_cst_11_apply, val_main_v75_apply, val_main_cst_21_apply,
    val_main_v73_apply, val_main_cst_19_apply]
  unfold Data.refValue
  exact congrArg₂ (fun a b : EReal => a + b)
    (congrArg (fun a : EReal => Ideal.ofBits .f32 0x3DCCCCCD#32 * Ideal.div a (Ideal.ofBits .f32 0x42800000#32)) (nll_total x0 x1 x2 x3 x4 x6 x7 x8 x9 x10 x11 i))
    (congrArg (fun a : EReal => Ideal.ofBits .f32 0x3F666666#32 * Ideal.div a (Ideal.ofBits .f32 0x481B4000#32)) (err_total x0 x1 x2 x3 x4 x6 x7 x8 x9 x10 x11 i))

end Cert.RefValue

end
-- ==== Proof.Regular.lean ====
/- The precondition, read at the kernel's arguments, makes them regular. -/
module

public import proofs.«01_k».proof.Proof.RefValue
public import proofs.«01_k».proof.Proof.Gen.Pre_finite_and_regular
public import Idealize.ShloMosaic.Lib.ReduceAll

@[expose] public section

noncomputable section

namespace Cert.Regular

open Cert.Pre_finite_and_regular Cert.Pre_finite_and_regular.Gen Idealize.ShloMosaic Idealize.ShloMosaic.ValueIdx
open Cert.Spec

/-- Two flags whose conjunction is set are set. -/
theorem and_set (a b : BitVec 1) (h : IntOp.andi a b = 1#1) : a = 1#1 ∧ b = 1#1 := by
  revert a b
  decide

/-- A comparison that is set holds. -/
theorem of_set {p : Prop} [Decidable p] (h : BitVec.ofBool (decide p) = 1#1) : p := by
  by_contra hp
  rw [decide_eq_false hp] at h
  exact absurd h (by decide)

/-- The float constant with these bits is infinity. -/
theorem bits_inf : (FloatOps.ofBits (F := Ideal) .f32 0x7F800000#32 : EReal) = ⊤ := by
  show Ideal.ofBits .f32 0x7F800000#32 = ⊤
  simp [Ideal.ofBits, Ideal.ieee]

/-- The empty index is the only one. -/
instance : Subsingleton S_.Idx := ⟨fun a b => funext fun k => k.elim0⟩

/-- An array that passes the finiteness test is finite at every index. -/
theorem finite_of_all {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : max (x i : EReal) (-(x i : EReal)) ≠ ⊤ := by
  have h := Host.reduce_andi_all _ _ hr hu j e i
  have h' : BitVec.ofBool (decide (max (x i : EReal) (-(x i : EReal)) < FloatOps.ofBits (F := Ideal) .f32 0x7F800000#32)) = 1#1 := h
  have h'' := of_set h'
  rw [bits_inf] at h''
  exact ne_of_lt h''

/-- An array that passes the test against infinity is below it at every index. -/
theorem below_of_all {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt x (broadcastInDim s ![] hb (constant S_ .f32 0x7F800000#32))) (constantI S_ 1 1#1) hr hu j = 1#1)
    (i : s.Idx) : (x i : EReal) ≠ ⊤ := by
  have h := Host.reduce_andi_all _ _ hr hu j e i
  have h' : BitVec.ofBool (decide ((x i : EReal) < FloatOps.ofBits (F := Ideal) .f32 0x7F800000#32)) = 1#1 := h
  have h'' := of_set h'
  rw [bits_inf] at h''
  exact ne_of_lt h''

/-- An array that passes the test against zero is nowhere zero. -/
theorem nonzero_of_all {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .une x (broadcastInDim s ![] hb (constant S_ .f32 0x00000000#32))) (constantI S_ 1 1#1) hr hu j = 1#1)
    (i : s.Idx) : (x i : EReal) ≠ 0 := by
  have h := Host.reduce_andi_all _ _ hr hu j e i
  have h' : BitVec.ofBool (decide ((x i : EReal) ≠ FloatOps.ofBits (F := Ideal) .f32 0x00000000#32)) = 1#1 := h
  have h'' := of_set h'
  rw [Cert.RefValue.bits_zero] at h''
  exact h''

variable (x0 x1 x2 : FVec Ideal S64x207x12 .f32) (x3 : FVec Ideal S64x10x1 .f32) (x4 : FVec Ideal S10 .f32) (x5 : FVec Ideal S64x207x12x9 .f32)
  (x6 : FVec Ideal S10x207x207 .f32) (x7 : FVec Ideal S10x12x12 .f32) (x8 : FVec Ideal S10x207 .f32) (x9 : FVec Ideal S10x207x207 .f32)
  (x10 : FVec Ideal S10x12 .f32) (x11 : FVec Ideal S10x12x12 .f32)

/-- The eigenvalues plus the noise, as the precondition writes them. -/
def capArr : FVec Ideal S10x207x12 .f32 :=
  addf (mulf (broadcastInDim S10x207x12 ![0, 1, 2] bcast_S10x207x1_S10x207x12_0_1_2 (broadcastInDim S10x207x1 ![0, 1] bcast_S10x207_S10x207x1_0_1 x8))
      (broadcastInDim S10x207x12 ![0, 1, 2] bcast_S10x1x12_S10x207x12_0_1_2 (broadcastInDim S10x1x12 ![0, 2] bcast_S10x12_S10x1x12_0_2 x10)))
    (broadcastInDim S10x207x12 ![0, 1, 2] bcast_S10x1x1_S10x207x12_0_1_2 (broadcastInDim S10x1x1 ![0] bcast_S10_S10x1x1_0 (mulf x4 x4)))

/-- … at an entry. -/
theorem capArr_apply (c : Fin 10) (n : Fin 207) (t : Fin 12) :
    (capArr x4 x8 x10 (ix3 c n t) : EReal) = (x8 (ix2 c n) : EReal) * (x10 (ix2 c t) : EReal) + (x4 (ix1 c) : EReal) * (x4 (ix1 c) : EReal) := by
  unfold capArr
  refine congrArg₂ (fun a b : EReal => a + b) (congrArg₂ (fun a b : EReal => a * b) ?_ ?_) ?_
  · rw [broadcastInDim_apply _ _ _ (ix3 c n t) (ix3 c n (0 : Fin 1)) (fun a => match a with | ⟨0, _⟩ => rfl | ⟨1, _⟩ => rfl | ⟨2, _⟩ => rfl),
      broadcastInDim_apply _ _ _ (ix3 c n (0 : Fin 1)) (ix2 c n) (fun a => match a with | ⟨0, _⟩ => rfl | ⟨1, _⟩ => rfl)]
  · rw [broadcastInDim_apply _ _ _ (ix3 c n t) (ix3 c (0 : Fin 1) t) (fun a => match a with | ⟨0, _⟩ => rfl | ⟨1, _⟩ => rfl | ⟨2, _⟩ => rfl),
      broadcastInDim_apply _ _ _ (ix3 c (0 : Fin 1) t) (ix2 c t) (fun a => match a with | ⟨0, _⟩ => rfl | ⟨1, _⟩ => rfl)]
  · rw [broadcastInDim_apply _ _ _ (ix3 c n t) (ix3 c (0 : Fin 1) (0 : Fin 1)) (fun a => match a with | ⟨0, _⟩ => rfl | ⟨1, _⟩ => rfl | ⟨2, _⟩ => rfl),
      broadcastInDim_apply _ _ _ (ix3 c (0 : Fin 1) (0 : Fin 1)) (ix1 c) (fun a => match a with | ⟨0, _⟩ => rfl)]
    rfl

/-- The spatial diagonals, as the precondition takes them. -/
def diagSArr : FVec Ideal S10x207 .f32 :=
  Host.reduceAdd (select (broadcastInDim S10x207x207 ![1, 2] bcast_S207x207_S10x207x207_1_2 (cmpi .eq (iotaInDim S207x207 32 0) (iotaInDim S207x207 32 1))) x6
      (broadcastInDim S10x207x207 ![] bcast_S_S10x207x207 (constant S_ .f32 0x00000000#32)))
    (constant S_ .f32 0x00000000#32) reducesTo_S10x207x207_S10x207_d1 h_S_

/-- … at an entry. -/
theorem diagSArr_apply (c : Fin 10) (k : Fin 207) : (diagSArr x6 (ix2 c k) : EReal) = (x6 (ix3 c k k) : EReal) := by
  refine Eq.trans (congrFun ?_ (ix2 c k)) (Cert.RefValue.diagS_apply x6 c k)
  unfold diagSArr Cert.ReferenceIdeal.Read.val_main_v22
  refine congrArg (fun y : FVec Ideal S10x207x207 .f32 => Host.reduceAdd y (constant S_ .f32 0x00000000#32) reducesTo_S10x207x207_S10x207_d1 h_S_) (funext fun i => ?_)
  rfl

/-- The temporal diagonals, as the precondition takes them. -/
def diagTArr : FVec Ideal S10x12 .f32 :=
  Host.reduceAdd (select (broadcastInDim S10x12x12 ![1, 2] bcast_S12x12_S10x12x12_1_2 (cmpi .eq (iotaInDim S12x12 32 0) (iotaInDim S12x12 32 1))) x7
      (broadcastInDim S10x12x12 ![] bcast_S_S10x12x12 (constant S_ .f32 0x00000000#32)))
    (constant S_ .f32 0x00000000#32) reducesTo_S10x12x12_S10x12_d1 h_S_

/-- … at an entry. -/
theorem diagTArr_apply (c : Fin 10) (k : Fin 12) : (diagTArr x7 (ix2 c k) : EReal) = (x7 (ix3 c k k) : EReal) := by
  refine Eq.trans (congrFun ?_ (ix2 c k)) (Cert.RefValue.diagT_apply x7 c k)
  unfold diagTArr Cert.ReferenceIdeal.Read.val_main_v32
  refine congrArg (fun y : FVec Ideal S10x12x12 .f32 => Host.reduceAdd y (constant S_ .f32 0x00000000#32) reducesTo_S10x12x12_S10x12_d1 h_S_) (funext fun i => ?_)
  rfl

/-- Arguments that satisfy the precondition are regular. -/
theorem regular_of (h : fn (F := Ideal) x0 x1 x2 x3 x4 x5 x6 x7 x8 x9 x10 x11 = fun _ => 1#1) : (Data.of x0 x1 x2 x3 x4 x6 x7 x8 x9 x10 x11).Regular := by
  have j : S_.Idx := fun k => k.elim0
  replace h := congrFun h j
  unfold fn fn_part1 fn_part2 at h
  replace h := and_set _ _ h
  have hcap := h.2
  replace h := h.1
  replace h := and_set _ _ h
  have h11 := h.2
  replace h := h.1
  replace h := and_set _ _ h
  have h9 := h.2
  replace h := h.1
  replace h := and_set _ _ h
  have h7 := h.2
  replace h := h.1
  replace h := and_set _ _ h
  have h6 := h.2
  replace h := h.1
  replace h := and_set _ _ h
  have h3 := h.2
  replace h := h.1
  obtain ⟨h0, h1⟩ := and_set _ _ h
  have e := nonzero_of_all (capArr x4 x8 x10) bcast_S_S10x207x12 reducesTo_S10x207x12_S_d0_1_2 h_S_ j hcap
  exact {
    mu := fun b n t => finite_of_all x0 bcast_S_S64x207x12 reducesTo_S64x207x12_S_d0_1_2 h_S_ j h0 (ix3 b n t)
    tg := fun b n t => finite_of_all x1 bcast_S_S64x207x12 reducesTo_S64x207x12_S_d0_1_2 h_S_ j h1 (ix3 b n t)
    w := fun b c => below_of_all x3 bcast_S_S64x10x1 reducesTo_S64x10x1_S_d0_1_2 h_S_ j h3 (ix3 b c (0 : Fin 1))
    ls := fun c i => by
      have e' := below_of_all (diagSArr x6) bcast_S_S10x207 reducesTo_S10x207_S_d0_1 h_S_ j h6 (ix2 c i)
      rw [diagSArr_apply] at e'
      exact e'
    lt := fun c i => by
      have e' := below_of_all (diagTArr x7) bcast_S_S10x12 reducesTo_S10x12_S_d0_1 h_S_ j h7 (ix2 c i)
      rw [diagTArr_apply] at e'
      exact e'
    us := fun c i k => finite_of_all x9 bcast_S_S10x207x207 reducesTo_S10x207x207_S_d0_1_2 h_S_ j h9 (ix3 c i k)
    ut := fun c i k => finite_of_all x11 bcast_S_S10x12x12 reducesTo_S10x12x12_S_d0_1_2 h_S_ j h11 (ix3 c i k)
    cap := fun c n t => by
      have e' := e (ix3 c n t)
      rw [capArr_apply] at e'
      exact e' }

end Cert.Regular

end
-- ==== Proof.Equal.lean ====
/- The kernel and the reference end with the same result. -/
module

public import proofs.«01_k».proof.Defs
public import proofs.«01_k».proof.Proof.Regular

@[expose] public section

noncomputable section

namespace Cert.Equal

open Idealize.ShloMosaic Idealize.SL.Sem

/-- On regular arguments the kernel's result is the reference's. -/
theorem result_eq (m : (ℓ : Loc Cert.KernelIdeal.nD Cert.KernelIdeal.τ Cert.KernelIdeal.sig) → Buf (Elt Ideal) ℓ) (c : Dev Cert.KernelIdeal.nD)
    (h : (Cert.Block.args m c).Regular) :
    Cert.ReferenceIdeal.Read.val_main_v76 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
    = Cert.Block.combine (Cert.Block.partsArr m c) := by
  funext j
  refine (Cert.RefValue.ref_value _ _ _ _ _ _ _ _ _ _ _ j).trans ?_
  exact (Cert.Spec.value_eq h).symm.trans (Cert.Block.combine_value m c j).symm

/-- The kernel computes the reference's result on every input that satisfies the precondition. -/
theorem algebraic : Cert.algebraic_KernelIdeal_ReferenceIdeal_pre_finite_and_regular := by
  intro m g m' g' hpre hargs
  refine ⟨fun c => Cert.Block.combine (Cert.Block.partsArr m c), Cert.Block.kernel_run m g,
    (θ_run Cert.ReferenceIdeal.defs _ _).mono (fun r h c => ⟨(h c).1.trans ?_, (h c).2⟩) (Cert.ReferenceIdeal.Value.run (F := Ideal) m' g')⟩
  obtain ⟨e0, e1, e2, e3, e4, _, e6, e7, e8, e9, e10, e11⟩ := hargs c
  rw [Cert.ReferenceIdeal.Read.val_main_v76_eq, e0, e1, e2, e3, e4, e6, e7, e8, e9, e10, e11]
  exact result_eq m c (Cert.Regular.regular_of _ _ _ _ _ _ _ _ _ _ _ _ (hpre c))

end Cert.Equal

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite_and_regular
public import proofs.«01_k».proof.Proof.Equal
public import Idealize.ShloMosaic.Adequacy
public import Idealize.ShloMosaic.Init

@[expose] public section

noncomputable section

namespace Cert.Proof

open Idealize.ShloMosaic Idealize.SL.Sem

/-- The reference runs, leaves its arguments as they were, and, declaring no semaphore, ends with none raised. -/
theorem reference_frame : Cert.quiescent_ReferenceIdeal := fun m ρ _ =>
  (θ_run Cert.ReferenceIdeal.defs _ _).mono (fun r h => ⟨fun c => (h c).2,
    Idealize.ShloMosaic.sem_eq_zero_of_no_sems (by decide) r.2⟩) (Cert.ReferenceIdeal.Value.run (F := Ideal) m ρ)

/-- Every claim of the certificate. -/
theorem claim : Cert.Claim := ⟨Cert.Kernel.Gen.facts, Cert.KernelIdeal.Gen.facts, Cert.ReferenceIdeal.Gen.facts, Cert.Pre_finite_and_regular.Gen.facts,
  fun m ρ _ => Cert.Kernel.Gen.frame m ρ, fun m ρ _ => Cert.KernelIdeal.Gen.frame m ρ, fun m ρ _ => Cert.KernelIdeal.Gen.frame m ρ, reference_frame, fun m ρ _ => reference_frame m ρ trivial, trivial, Cert.Equal.algebraic⟩

end Cert.Proof

end
